-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S8x512x512 : Shape := ⟨3, ![8, 512, 512]⟩
abbrev S3x512x2048 : Shape := ⟨3, ![3, 512, 2048]⟩
abbrev S2x512x2048 : Shape := ⟨3, ![2, 512, 2048]⟩
abbrev S8 : Shape := ⟨1, ![8]⟩
abbrev S3 : Shape := ⟨1, ![3]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S4096x512, .f32⟩
  | .local _ .vmem, ⟨1, _⟩ => ⟨S4096x512, .bf16⟩
  | .local _ .vmem, ⟨2, _⟩ => ⟨S8x512x512, .bf16⟩
  | .local _ .vmem, ⟨3, _⟩ => ⟨S3x512x2048, .f32⟩
  | .local _ .vmem, ⟨4, _⟩ => ⟨S2x512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 2 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c0_i32
  let c8_i32_0 : BitVec 32 := 8#32
  let c0_i32_1 : BitVec 32 := 0#32
  let v4 : BitVec 1 := Scalar.cmpi .eq c8_i32_0 c0_i32_1
  let c1_i32_2 : BitVec 32 := 1#32
  let v5 : BitVec 32 := Scalar.select v4 c1_i32_2 c8_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  let c0_i32_10 : BitVec 32 := 0#32
  ![v14.toNat, 0]
def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v44 : BitVec 32 := Scalar.addi v2 c1_i32_27
  let c8_i32_28 : BitVec 32 := 8#32
  let c0_i32_29 : BitVec 32 := 0#32
  let v45 : BitVec 1 := Scalar.cmpi .eq c8_i32_28 c0_i32_29
  let c1_i32_30 : BitVec 32 := 1#32
  let v46 : BitVec 32 := Scalar.select v45 c1_i32_30 c8_i32_28
  let v47 : BitVec 32 := Scalar.remsi v44 v46
  let c0_i32_32 : BitVec 32 := 0#32
  let v49 : BitVec 1 := Scalar.cmpi .slt v47 c0_i32_32
  let c0_i32_33 : BitVec 32 := 0#32
  let v50 : BitVec 1 := Scalar.cmpi .slt v46 c0_i32_33
  let v51 : BitVec 1 := Scalar.xori v49 v50
  let c0_i32_31 : BitVec 32 := 0#32
  let v48 : BitVec 1 := Scalar.cmpi .ne v47 c0_i32_31
  let v52 : BitVec 1 := Scalar.andi v51 v48
  let v53 : BitVec 32 := Scalar.addi v47 v46
  let v54 : BitVec 32 := Scalar.select v52 v53 v47
  let c1_i32_35 : BitVec 32 := 1#32
  let v55 : BitVec 32 := Scalar.muli v54 c1_i32_35
  let v56 : BitVec 32 := Scalar.addi c0_i32_36 v55
  v56.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v57 : BitVec 32 := Scalar.addi v2 c2_i32
  let c8_i32_37 : BitVec 32 := 8#32
  let c0_i32_38 : BitVec 32 := 0#32
  let v58 : BitVec 1 := Scalar.cmpi .eq c8_i32_37 c0_i32_38
  let c1_i32_39 : BitVec 32 := 1#32
  let v59 : BitVec 32 := Scalar.select v58 c1_i32_39 c8_i32_37
  let v60 : BitVec 32 := Scalar.remsi v57 v59
  let c0_i32_41 : BitVec 32 := 0#32
  let v62 : BitVec 1 := Scalar.cmpi .slt v60 c0_i32_41
  let c0_i32_42 : BitVec 32 := 0#32
  let v63 : BitVec 1 := Scalar.cmpi .slt v59 c0_i32_42
  let v64 : BitVec 1 := Scalar.xori v62 v63
  let c0_i32_40 : BitVec 32 := 0#32
  let v61 : BitVec 1 := Scalar.cmpi .ne v60 c0_i32_40
  let v65 : BitVec 1 := Scalar.andi v64 v61
  let v66 : BitVec 32 := Scalar.addi v60 v59
  let v67 : BitVec 32 := Scalar.select v65 v66 v60
  let c1_i32_44 : BitVec 32 := 1#32
  let v68 : BitVec 32 := Scalar.muli v67 c1_i32_44
  let v69 : BitVec 32 := Scalar.addi c0_i32_45 v68
  v69.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v70 : BitVec 32 := Scalar.addi v2 c3_i32
  let c8_i32_46 : BitVec 32 := 8#32
  let c0_i32_47 : BitVec 32 := 0#32
  let v71 : BitVec 1 := Scalar.cmpi .eq c8_i32_46 c0_i32_47
  let c1_i32_48 : BitVec 32 := 1#32
  let v72 : BitVec 32 := Scalar.select v71 c1_i32_48 c8_i32_46
  let v73 : BitVec 32 := Scalar.remsi v70 v72
  let c0_i32_50 : BitVec 32 := 0#32
  let v75 : BitVec 1 := Scalar.cmpi .slt v73 c0_i32_50
  let c0_i32_51 : BitVec 32 := 0#32
  let v76 : BitVec 1 := Scalar.cmpi .slt v72 c0_i32_51
  let v77 : BitVec 1 := Scalar.xori v75 v76
  let c0_i32_49 : BitVec 32 := 0#32
  let v74 : BitVec 1 := Scalar.cmpi .ne v73 c0_i32_49
  let v78 : BitVec 1 := Scalar.andi v77 v74
  let v79 : BitVec 32 := Scalar.addi v73 v72
  let v80 : BitVec 32 := Scalar.select v78 v79 v73
  let c1_i32_53 : BitVec 32 := 1#32
  let v81 : BitVec 32 := Scalar.muli v80 c1_i32_53
  let v82 : BitVec 32 := Scalar.addi c0_i32_54 v81
  v82.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v83 : BitVec 32 := Scalar.addi v2 c4_i32
  let c8_i32_55 : BitVec 32 := 8#32
  let c0_i32_56 : BitVec 32 := 0#32
  let v84 : BitVec 1 := Scalar.cmpi .eq c8_i32_55 c0_i32_56
  let c1_i32_57 : BitVec 32 := 1#32
  let v85 : BitVec 32 := Scalar.select v84 c1_i32_57 c8_i32_55
  let v86 : BitVec 32 := Scalar.remsi v83 v85
  let c0_i32_59 : BitVec 32 := 0#32
  let v88 : BitVec 1 := Scalar.cmpi .slt v86 c0_i32_59
  let c0_i32_60 : BitVec 32 := 0#32
  let v89 : BitVec 1 := Scalar.cmpi .slt v85 c0_i32_60
  let v90 : BitVec 1 := Scalar.xori v88 v89
  let c0_i32_58 : BitVec 32 := 0#32
  let v87 : BitVec 1 := Scalar.cmpi .ne v86 c0_i32_58
  let v91 : BitVec 1 := Scalar.andi v90 v87
  let v92 : BitVec 32 := Scalar.addi v86 v85
  let v93 : BitVec 32 := Scalar.select v91 v92 v86
  let c1_i32_62 : BitVec 32 := 1#32
  let v94 : BitVec 32 := Scalar.muli v93 c1_i32_62
  let v95 : BitVec 32 := Scalar.addi c0_i32_63 v94
  v95.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v96 : BitVec 32 := Scalar.addi v2 c5_i32
  let c8_i32_64 : BitVec 32 := 8#32
  let c0_i32_65 : BitVec 32 := 0#32
  let v97 : BitVec 1 := Scalar.cmpi .eq c8_i32_64 c0_i32_65
  let c1_i32_66 : BitVec 32 := 1#32
  let v98 : BitVec 32 := Scalar.select v97 c1_i32_66 c8_i32_64
  let v99 : BitVec 32 := Scalar.remsi v96 v98
  let c0_i32_68 : BitVec 32 := 0#32
  let v101 : BitVec 1 := Scalar.cmpi .slt v99 c0_i32_68
  let c0_i32_69 : BitVec 32 := 0#32
  let v102 : BitVec 1 := Scalar.cmpi .slt v98 c0_i32_69
  let v103 : BitVec 1 := Scalar.xori v101 v102
  let c0_i32_67 : BitVec 32 := 0#32
  let v100 : BitVec 1 := Scalar.cmpi .ne v99 c0_i32_67
  let v104 : BitVec 1 := Scalar.andi v103 v100
  let v105 : BitVec 32 := Scalar.addi v99 v98
  let v106 : BitVec 32 := Scalar.select v104 v105 v99
  let c1_i32_71 : BitVec 32 := 1#32
  let v107 : BitVec 32 := Scalar.muli v106 c1_i32_71
  let v108 : BitVec 32 := Scalar.addi c0_i32_72 v107
  v108.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v109 : BitVec 32 := Scalar.addi v2 c6_i32
  let c8_i32_73 : BitVec 32 := 8#32
  let c0_i32_74 : BitVec 32 := 0#32
  let v110 : BitVec 1 := Scalar.cmpi .eq c8_i32_73 c0_i32_74
  let c1_i32_75 : BitVec 32 := 1#32
  let v111 : BitVec 32 := Scalar.select v110 c1_i32_75 c8_i32_73
  let v112 : BitVec 32 := Scalar.remsi v109 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let c1_i32_80 : BitVec 32 := 1#32
  let v120 : BitVec 32 := Scalar.muli v119 c1_i32_80
  let v121 : BitVec 32 := Scalar.addi c0_i32_81 v120
  v121.toNat
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v122 : BitVec 32 := Scalar.addi v2 c7_i32
  let c8_i32_82 : BitVec 32 := 8#32
  let c0_i32_83 : BitVec 32 := 0#32
  let v123 : BitVec 1 := Scalar.cmpi .eq c8_i32_82 c0_i32_83
  let c1_i32_84 : BitVec 32 := 1#32
  let v124 : BitVec 32 := Scalar.select v123 c1_i32_84 c8_i32_82
  let v125 : BitVec 32 := Scalar.remsi v122 v124
  let c0_i32_86 : BitVec 32 := 0#32
  let v127 : BitVec 1 := Scalar.cmpi .slt v125 c0_i32_86
  let c0_i32_87 : BitVec 32 := 0#32
  let v128 : BitVec 1 := Scalar.cmpi .slt v124 c0_i32_87
  let v129 : BitVec 1 := Scalar.xori v127 v128
  let c0_i32_85 : BitVec 32 := 0#32
  let v126 : BitVec 1 := Scalar.cmpi .ne v125 c0_i32_85
  let v130 : BitVec 1 := Scalar.andi v129 v126
  let v131 : BitVec 32 := Scalar.addi v125 v124
  let v132 : BitVec 32 := Scalar.select v130 v131 v125
  let c1_i32_89 : BitVec 32 := 1#32
  let v133 : BitVec 32 := Scalar.muli v132 c1_i32_89
  let v134 : BitVec 32 := Scalar.addi c0_i32_90 v133
  v134.toNat
def k0_off2 (d0 : Dev nD) (c1_i32_92 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v135 : BitVec 32 := Scalar.subi v2 c1_i32_92
  let c8_i32_93 : BitVec 32 := 8#32
  let c0_i32_94 : BitVec 32 := 0#32
  let v136 : BitVec 1 := Scalar.cmpi .eq c8_i32_93 c0_i32_94
  let c1_i32_95 : BitVec 32 := 1#32
  let v137 : BitVec 32 := Scalar.select v136 c1_i32_95 c8_i32_93
  let v138 : BitVec 32 := Scalar.remsi v135 v137
  let c0_i32_97 : BitVec 32 := 0#32
  let v140 : BitVec 1 := Scalar.cmpi .slt v138 c0_i32_97
  let c0_i32_98 : BitVec 32 := 0#32
  let v141 : BitVec 1 := Scalar.cmpi .slt v137 c0_i32_98
  let v142 : BitVec 1 := Scalar.xori v140 v141
  let c0_i32_96 : BitVec 32 := 0#32
  let v139 : BitVec 1 := Scalar.cmpi .ne v138 c0_i32_96
  let v143 : BitVec 1 := Scalar.andi v142 v139
  let v144 : BitVec 32 := Scalar.addi v138 v137
  let v145 : BitVec 32 := Scalar.select v143 v144 v138
  let c512_i32_99 : BitVec 32 := 512#32
  let v146 : BitVec 32 := Scalar.muli v145 c512_i32_99
  let c0_i32_107 : BitVec 32 := 0#32
  ![v146.toNat, 0]
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_92 : BitVec 32 := 1#32
  let v135 : BitVec 32 := Scalar.subi v2 c1_i32_92
  let c8_i32_93 : BitVec 32 := 8#32
  let c0_i32_94 : BitVec 32 := 0#32
  let v136 : BitVec 1 := Scalar.cmpi .eq c8_i32_93 c0_i32_94
  let c1_i32_95 : BitVec 32 := 1#32
  let v137 : BitVec 32 := Scalar.select v136 c1_i32_95 c8_i32_93
  let v138 : BitVec 32 := Scalar.remsi v135 v137
  let c0_i32_97 : BitVec 32 := 0#32
  let v140 : BitVec 1 := Scalar.cmpi .slt v138 c0_i32_97
  let c0_i32_98 : BitVec 32 := 0#32
  let v141 : BitVec 1 := Scalar.cmpi .slt v137 c0_i32_98
  let v142 : BitVec 1 := Scalar.xori v140 v141
  let c0_i32_96 : BitVec 32 := 0#32
  let v139 : BitVec 1 := Scalar.cmpi .ne v138 c0_i32_96
  let v143 : BitVec 1 := Scalar.andi v142 v139
  let v144 : BitVec 32 := Scalar.addi v138 v137
  let v145 : BitVec 32 := Scalar.select v143 v144 v138
  let c1_i32_103 : BitVec 32 := 1#32
  let v147 : BitVec 32 := Scalar.muli v145 c1_i32_103
  let v148 : BitVec 32 := Scalar.addi c0_i32_104 v147
  v148.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v156 : BitVec 32 := Scalar.subi v2 c2_i32_108
  let c8_i32_109 : BitVec 32 := 8#32
  let c0_i32_110 : BitVec 32 := 0#32
  let v157 : BitVec 1 := Scalar.cmpi .eq c8_i32_109 c0_i32_110
  let c1_i32_111 : BitVec 32 := 1#32
  let v158 : BitVec 32 := Scalar.select v157 c1_i32_111 c8_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c1_i32_119 : BitVec 32 := 1#32
  let v168 : BitVec 32 := Scalar.muli v166 c1_i32_119
  let v169 : BitVec 32 := Scalar.addi c0_i32_120 v168
  v169.toNat
def k0_dev10 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_124 : BitVec 32 := 3#32
  let v177 : BitVec 32 := Scalar.subi v2 c3_i32_124
  let c8_i32_125 : BitVec 32 := 8#32
  let c0_i32_126 : BitVec 32 := 0#32
  let v178 : BitVec 1 := Scalar.cmpi .eq c8_i32_125 c0_i32_126
  let c1_i32_127 : BitVec 32 := 1#32
  let v179 : BitVec 32 := Scalar.select v178 c1_i32_127 c8_i32_125
  let v180 : BitVec 32 := Scalar.remsi v177 v179
  let c0_i32_129 : BitVec 32 := 0#32
  let v182 : BitVec 1 := Scalar.cmpi .slt v180 c0_i32_129
  let c0_i32_130 : BitVec 32 := 0#32
  let v183 : BitVec 1 := Scalar.cmpi .slt v179 c0_i32_130
  let v184 : BitVec 1 := Scalar.xori v182 v183
  let c0_i32_128 : BitVec 32 := 0#32
  let v181 : BitVec 1 := Scalar.cmpi .ne v180 c0_i32_128
  let v185 : BitVec 1 := Scalar.andi v184 v181
  let v186 : BitVec 32 := Scalar.addi v180 v179
  let v187 : BitVec 32 := Scalar.select v185 v186 v180
  let c1_i32_135 : BitVec 32 := 1#32
  let v189 : BitVec 32 := Scalar.muli v187 c1_i32_135
  let v190 : BitVec 32 := Scalar.addi c0_i32_136 v189
  v190.toNat
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_140 : BitVec 32 := 4#32
  let v198 : BitVec 32 := Scalar.subi v2 c4_i32_140
  let c8_i32_141 : BitVec 32 := 8#32
  let c0_i32_142 : BitVec 32 := 0#32
  let v199 : BitVec 1 := Scalar.cmpi .eq c8_i32_141 c0_i32_142
  let c1_i32_143 : BitVec 32 := 1#32
  let v200 : BitVec 32 := Scalar.select v199 c1_i32_143 c8_i32_141
  let v201 : BitVec 32 := Scalar.remsi v198 v200
  let c0_i32_145 : BitVec 32 := 0#32
  let v203 : BitVec 1 := Scalar.cmpi .slt v201 c0_i32_145
  let c0_i32_146 : BitVec 32 := 0#32
  let v204 : BitVec 1 := Scalar.cmpi .slt v200 c0_i32_146
  let v205 : BitVec 1 := Scalar.xori v203 v204
  let c0_i32_144 : BitVec 32 := 0#32
  let v202 : BitVec 1 := Scalar.cmpi .ne v201 c0_i32_144
  let v206 : BitVec 1 := Scalar.andi v205 v202
  let v207 : BitVec 32 := Scalar.addi v201 v200
  let v208 : BitVec 32 := Scalar.select v206 v207 v201
  let c1_i32_151 : BitVec 32 := 1#32
  let v210 : BitVec 32 := Scalar.muli v208 c1_i32_151
  let v211 : BitVec 32 := Scalar.addi c0_i32_152 v210
  v211.toNat
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_156 : BitVec 32 := 5#32
  let v219 : BitVec 32 := Scalar.subi v2 c5_i32_156
  let c8_i32_157 : BitVec 32 := 8#32
  let c0_i32_158 : BitVec 32 := 0#32
  let v220 : BitVec 1 := Scalar.cmpi .eq c8_i32_157 c0_i32_158
  let c1_i32_159 : BitVec 32 := 1#32
  let v221 : BitVec 32 := Scalar.select v220 c1_i32_159 c8_i32_157
  let v222 : BitVec 32 := Scalar.remsi v219 v221
  let c0_i32_161 : BitVec 32 := 0#32
  let v224 : BitVec 1 := Scalar.cmpi .slt v222 c0_i32_161
  let c0_i32_162 : BitVec 32 := 0#32
  let v225 : BitVec 1 := Scalar.cmpi .slt v221 c0_i32_162
  let v226 : BitVec 1 := Scalar.xori v224 v225
  let c0_i32_160 : BitVec 32 := 0#32
  let v223 : BitVec 1 := Scalar.cmpi .ne v222 c0_i32_160
  let v227 : BitVec 1 := Scalar.andi v226 v223
  let v228 : BitVec 32 := Scalar.addi v222 v221
  let v229 : BitVec 32 := Scalar.select v227 v228 v222
  let c1_i32_167 : BitVec 32 := 1#32
  let v231 : BitVec 32 := Scalar.muli v229 c1_i32_167
  let v232 : BitVec 32 := Scalar.addi c0_i32_168 v231
  v232.toNat
def k0_dev13 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_172 : BitVec 32 := 6#32
  let v240 : BitVec 32 := Scalar.subi v2 c6_i32_172
  let c8_i32_173 : BitVec 32 := 8#32
  let c0_i32_174 : BitVec 32 := 0#32
  let v241 : BitVec 1 := Scalar.cmpi .eq c8_i32_173 c0_i32_174
  let c1_i32_175 : BitVec 32 := 1#32
  let v242 : BitVec 32 := Scalar.select v241 c1_i32_175 c8_i32_173
  let v243 : BitVec 32 := Scalar.remsi v240 v242
  let c0_i32_177 : BitVec 32 := 0#32
  let v245 : BitVec 1 := Scalar.cmpi .slt v243 c0_i32_177
  let c0_i32_178 : BitVec 32 := 0#32
  let v246 : BitVec 1 := Scalar.cmpi .slt v242 c0_i32_178
  let v247 : BitVec 1 := Scalar.xori v245 v246
  let c0_i32_176 : BitVec 32 := 0#32
  let v244 : BitVec 1 := Scalar.cmpi .ne v243 c0_i32_176
  let v248 : BitVec 1 := Scalar.andi v247 v244
  let v249 : BitVec 32 := Scalar.addi v243 v242
  let v250 : BitVec 32 := Scalar.select v248 v249 v243
  let c1_i32_183 : BitVec 32 := 1#32
  let v252 : BitVec 32 := Scalar.muli v250 c1_i32_183
  let v253 : BitVec 32 := Scalar.addi c0_i32_184 v252
  v253.toNat
def k0_dev14 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_188 : BitVec 32 := 7#32
  let v261 : BitVec 32 := Scalar.subi v2 c7_i32_188
  let c8_i32_189 : BitVec 32 := 8#32
  let c0_i32_190 : BitVec 32 := 0#32
  let v262 : BitVec 1 := Scalar.cmpi .eq c8_i32_189 c0_i32_190
  let c1_i32_191 : BitVec 32 := 1#32
  let v263 : BitVec 32 := Scalar.select v262 c1_i32_191 c8_i32_189
  let v264 : BitVec 32 := Scalar.remsi v261 v263
  let c0_i32_193 : BitVec 32 := 0#32
  let v266 : BitVec 1 := Scalar.cmpi .slt v264 c0_i32_193
  let c0_i32_194 : BitVec 32 := 0#32
  let v267 : BitVec 1 := Scalar.cmpi .slt v263 c0_i32_194
  let v268 : BitVec 1 := Scalar.xori v266 v267
  let c0_i32_192 : BitVec 32 := 0#32
  let v265 : BitVec 1 := Scalar.cmpi .ne v264 c0_i32_192
  let v269 : BitVec 1 := Scalar.andi v268 v265
  let v270 : BitVec 32 := Scalar.addi v264 v263
  let v271 : BitVec 32 := Scalar.select v269 v270 v264
  let c1_i32_199 : BitVec 32 := 1#32
  let v273 : BitVec 32 := Scalar.muli v271 c1_i32_199
  let v274 : BitVec 32 := Scalar.addi c0_i32_200 v273
  v274.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_230 : BitVec 32 := 512#32
  let v316 : BitVec 32 := Scalar.muli v2 c512_i32_230
  let v317 : Index := Scalar.indexCast v316
  let c0_231 : Index := 0#32
  ![v317.toNat, 0]
def k0_off4 (d0 : Dev nD) (c0_i32_480 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v623 : BitVec 32 := Scalar.addi v2 c0_i32_480
  let c8_i32_481 : BitVec 32 := 8#32
  let c0_i32_482 : BitVec 32 := 0#32
  let v624 : BitVec 1 := Scalar.cmpi .eq c8_i32_481 c0_i32_482
  let c1_i32_483 : BitVec 32 := 1#32
  let v625 : BitVec 32 := Scalar.select v624 c1_i32_483 c8_i32_481
  let v626 : BitVec 32 := Scalar.remsi v623 v625
  let c0_i32_485 : BitVec 32 := 0#32
  let v628 : BitVec 1 := Scalar.cmpi .slt v626 c0_i32_485
  let c0_i32_486 : BitVec 32 := 0#32
  let v629 : BitVec 1 := Scalar.cmpi .slt v625 c0_i32_486
  let v630 : BitVec 1 := Scalar.xori v628 v629
  let c0_i32_484 : BitVec 32 := 0#32
  let v627 : BitVec 1 := Scalar.cmpi .ne v626 c0_i32_484
  let v631 : BitVec 1 := Scalar.andi v630 v627
  let v632 : BitVec 32 := Scalar.addi v626 v625
  let v633 : BitVec 32 := Scalar.select v631 v632 v626
  let c512_i32_487 : BitVec 32 := 512#32
  let v634 : BitVec 32 := Scalar.muli v633 c512_i32_487
  let c2048_i32 : BitVec 32 := 2048#32
  ![v634.toNat, 2048]
def k0_off5 (d0 : Dev nD) (c0_i32_783 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v997 : BitVec 32 := Scalar.addi v2 c0_i32_783
  let c8_i32_784 : BitVec 32 := 8#32
  let c0_i32_785 : BitVec 32 := 0#32
  let v998 : BitVec 1 := Scalar.cmpi .eq c8_i32_784 c0_i32_785
  let c1_i32_786 : BitVec 32 := 1#32
  let v999 : BitVec 32 := Scalar.select v998 c1_i32_786 c8_i32_784
  let v1000 : BitVec 32 := Scalar.remsi v997 v999
  let c0_i32_788 : BitVec 32 := 0#32
  let v1002 : BitVec 1 := Scalar.cmpi .slt v1000 c0_i32_788
  let c0_i32_789 : BitVec 32 := 0#32
  let v1003 : BitVec 1 := Scalar.cmpi .slt v999 c0_i32_789
  let v1004 : BitVec 1 := Scalar.xori v1002 v1003
  let c0_i32_787 : BitVec 32 := 0#32
  let v1001 : BitVec 1 := Scalar.cmpi .ne v1000 c0_i32_787
  let v1005 : BitVec 1 := Scalar.andi v1004 v1001
  let v1006 : BitVec 32 := Scalar.addi v1000 v999
  let v1007 : BitVec 32 := Scalar.select v1005 v1006 v1000
  let c512_i32_790 : BitVec 32 := 512#32
  let v1008 : BitVec 32 := Scalar.muli v1007 c512_i32_790
  let c4096_i32 : BitVec 32 := 4096#32
  ![v1008.toNat, 4096]
def k0_off6 (d0 : Dev nD) (c0_i32_1054 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1333 : BitVec 32 := Scalar.addi v2 c0_i32_1054
  let c8_i32_1055 : BitVec 32 := 8#32
  let c0_i32_1056 : BitVec 32 := 0#32
  let v1334 : BitVec 1 := Scalar.cmpi .eq c8_i32_1055 c0_i32_1056
  let c1_i32_1057 : BitVec 32 := 1#32
  let v1335 : BitVec 32 := Scalar.select v1334 c1_i32_1057 c8_i32_1055
  let v1336 : BitVec 32 := Scalar.remsi v1333 v1335
  let c0_i32_1059 : BitVec 32 := 0#32
  let v1338 : BitVec 1 := Scalar.cmpi .slt v1336 c0_i32_1059
  let c0_i32_1060 : BitVec 32 := 0#32
  let v1339 : BitVec 1 := Scalar.cmpi .slt v1335 c0_i32_1060
  let v1340 : BitVec 1 := Scalar.xori v1338 v1339
  let c0_i32_1058 : BitVec 32 := 0#32
  let v1337 : BitVec 1 := Scalar.cmpi .ne v1336 c0_i32_1058
  let v1341 : BitVec 1 := Scalar.andi v1340 v1337
  let v1342 : BitVec 32 := Scalar.addi v1336 v1335
  let v1343 : BitVec 32 := Scalar.select v1341 v1342 v1336
  let c512_i32_1061 : BitVec 32 := 512#32
  let v1344 : BitVec 32 := Scalar.muli v1343 c512_i32_1061
  let c6144_i32 : BitVec 32 := 6144#32
  ![v1344.toNat, 6144]
def k0_dev15 (d0 : Dev nD) : Nat :=
  let c0_i32_1456_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1447_r0 : BitVec 32 := 1#32
  let v1781_r0 : BitVec 32 := Scalar.addi v2 c1_i32_1447_r0
  let c8_i32_1448_r0 : BitVec 32 := 8#32
  let c0_i32_1449_r0 : BitVec 32 := 0#32
  let v1782_r0 : BitVec 1 := Scalar.cmpi .eq c8_i32_1448_r0 c0_i32_1449_r0
  let c1_i32_1450_r0 : BitVec 32 := 1#32
  let v1783_r0 : BitVec 32 := Scalar.select v1782_r0 c1_i32_1450_r0 c8_i32_1448_r0
  let v1784_r0 : BitVec 32 := Scalar.remsi v1781_r0 v1783_r0
  let c0_i32_1452_r0 : BitVec 32 := 0#32
  let v1786_r0 : BitVec 1 := Scalar.cmpi .slt v1784_r0 c0_i32_1452_r0
  let c0_i32_1453_r0 : BitVec 32 := 0#32
  let v1787_r0 : BitVec 1 := Scalar.cmpi .slt v1783_r0 c0_i32_1453_r0
  let v1788_r0 : BitVec 1 := Scalar.xori v1786_r0 v1787_r0
  let c0_i32_1451_r0 : BitVec 32 := 0#32
  let v1785_r0 : BitVec 1 := Scalar.cmpi .ne v1784_r0 c0_i32_1451_r0
  let v1789_r0 : BitVec 1 := Scalar.andi v1788_r0 v1785_r0
  let v1790_r0 : BitVec 32 := Scalar.addi v1784_r0 v1783_r0
  let v1791_r0 : BitVec 32 := Scalar.select v1789_r0 v1790_r0 v1784_r0
  let c1_i32_1455_r0 : BitVec 32 := 1#32
  let v1792_r0 : BitVec 32 := Scalar.muli v1791_r0 c1_i32_1455_r0
  let v1793_r0 : BitVec 32 := Scalar.addi c0_i32_1456_r0 v1792_r0
  v1793_r0.toNat
def k0_dev16 (d0 : Dev nD) : Nat :=
  let c0_i32_1466_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1457_r0 : BitVec 32 := 2#32
  let v1794_r0 : BitVec 32 := Scalar.addi v2 c2_i32_1457_r0
  let c8_i32_1458_r0 : BitVec 32 := 8#32
  let c0_i32_1459_r0 : BitVec 32 := 0#32
  let v1795_r0 : BitVec 1 := Scalar.cmpi .eq c8_i32_1458_r0 c0_i32_1459_r0
  let c1_i32_1460_r0 : BitVec 32 := 1#32
  let v1796_r0 : BitVec 32 := Scalar.select v1795_r0 c1_i32_1460_r0 c8_i32_1458_r0
  let v1797_r0 : BitVec 32 := Scalar.remsi v1794_r0 v1796_r0
  let c0_i32_1462_r0 : BitVec 32 := 0#32
  let v1799_r0 : BitVec 1 := Scalar.cmpi .slt v1797_r0 c0_i32_1462_r0
  let c0_i32_1463_r0 : BitVec 32 := 0#32
  let v1800_r0 : BitVec 1 := Scalar.cmpi .slt v1796_r0 c0_i32_1463_r0
  let v1801_r0 : BitVec 1 := Scalar.xori v1799_r0 v1800_r0
  let c0_i32_1461_r0 : BitVec 32 := 0#32
  let v1798_r0 : BitVec 1 := Scalar.cmpi .ne v1797_r0 c0_i32_1461_r0
  let v1802_r0 : BitVec 1 := Scalar.andi v1801_r0 v1798_r0
  let v1803_r0 : BitVec 32 := Scalar.addi v1797_r0 v1796_r0
  let v1804_r0 : BitVec 32 := Scalar.select v1802_r0 v1803_r0 v1797_r0
  let c1_i32_1465_r0 : BitVec 32 := 1#32
  let v1805_r0 : BitVec 32 := Scalar.muli v1804_r0 c1_i32_1465_r0
  let v1806_r0 : BitVec 32 := Scalar.addi c0_i32_1466_r0 v1805_r0
  v1806_r0.toNat
def k0_dev17 (d0 : Dev nD) : Nat :=
  let c0_i32_1476_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1467_r0 : BitVec 32 := 3#32
  let v1807_r0 : BitVec 32 := Scalar.addi v2 c3_i32_1467_r0
  let c8_i32_1468_r0 : BitVec 32 := 8#32
  let c0_i32_1469_r0 : BitVec 32 := 0#32
  let v1808_r0 : BitVec 1 := Scalar.cmpi .eq c8_i32_1468_r0 c0_i32_1469_r0
  let c1_i32_1470_r0 : BitVec 32 := 1#32
  let v1809_r0 : BitVec 32 := Scalar.select v1808_r0 c1_i32_1470_r0 c8_i32_1468_r0
  let v1810_r0 : BitVec 32 := Scalar.remsi v1807_r0 v1809_r0
  let c0_i32_1472_r0 : BitVec 32 := 0#32
  let v1812_r0 : BitVec 1 := Scalar.cmpi .slt v1810_r0 c0_i32_1472_r0
  let c0_i32_1473_r0 : BitVec 32 := 0#32
  let v1813_r0 : BitVec 1 := Scalar.cmpi .slt v1809_r0 c0_i32_1473_r0
  let v1814_r0 : BitVec 1 := Scalar.xori v1812_r0 v1813_r0
  let c0_i32_1471_r0 : BitVec 32 := 0#32
  let v1811_r0 : BitVec 1 := Scalar.cmpi .ne v1810_r0 c0_i32_1471_r0
  let v1815_r0 : BitVec 1 := Scalar.andi v1814_r0 v1811_r0
  let v1816_r0 : BitVec 32 := Scalar.addi v1810_r0 v1809_r0
  let v1817_r0 : BitVec 32 := Scalar.select v1815_r0 v1816_r0 v1810_r0
  let c1_i32_1475_r0 : BitVec 32 := 1#32
  let v1818_r0 : BitVec 32 := Scalar.muli v1817_r0 c1_i32_1475_r0
  let v1819_r0 : BitVec 32 := Scalar.addi c0_i32_1476_r0 v1818_r0
  v1819_r0.toNat
def k0_dev18 (d0 : Dev nD) : Nat :=
  let c0_i32_1486_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1477_r0 : BitVec 32 := 4#32
  let v1820_r0 : BitVec 32 := Scalar.addi v2 c4_i32_1477_r0
  let c8_i32_1478_r0 : BitVec 32 := 8#32
  let c0_i32_1479_r0 : BitVec 32 := 0#32
  let v1821_r0 : BitVec 1 := Scalar.cmpi .eq c8_i32_1478_r0 c0_i32_1479_r0
  let c1_i32_1480_r0 : BitVec 32 := 1#32
  let v1822_r0 : BitVec 32 := Scalar.select v1821_r0 c1_i32_1480_r0 c8_i32_1478_r0
  let v1823_r0 : BitVec 32 := Scalar.remsi v1820_r0 v1822_r0
  let c0_i32_1482_r0 : BitVec 32 := 0#32
  let v1825_r0 : BitVec 1 := Scalar.cmpi .slt v1823_r0 c0_i32_1482_r0
  let c0_i32_1483_r0 : BitVec 32 := 0#32
  let v1826_r0 : BitVec 1 := Scalar.cmpi .slt v1822_r0 c0_i32_1483_r0
  let v1827_r0 : BitVec 1 := Scalar.xori v1825_r0 v1826_r0
  let c0_i32_1481_r0 : BitVec 32 := 0#32
  let v1824_r0 : BitVec 1 := Scalar.cmpi .ne v1823_r0 c0_i32_1481_r0
  let v1828_r0 : BitVec 1 := Scalar.andi v1827_r0 v1824_r0
  let v1829_r0 : BitVec 32 := Scalar.addi v1823_r0 v1822_r0
  let v1830_r0 : BitVec 32 := Scalar.select v1828_r0 v1829_r0 v1823_r0
  let c1_i32_1485_r0 : BitVec 32 := 1#32
  let v1831_r0 : BitVec 32 := Scalar.muli v1830_r0 c1_i32_1485_r0
  let v1832_r0 : BitVec 32 := Scalar.addi c0_i32_1486_r0 v1831_r0
  v1832_r0.toNat
def k0_dev19 (d0 : Dev nD) : Nat :=
  let c0_i32_1496_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1487_r0 : BitVec 32 := 5#32
  let v1833_r0 : BitVec 32 := Scalar.addi v2 c5_i32_1487_r0
  let c8_i32_1488_r0 : BitVec 32 := 8#32
  let c0_i32_1489_r0 : BitVec 32 := 0#32
  let v1834_r0 : BitVec 1 := Scalar.cmpi .eq c8_i32_1488_r0 c0_i32_1489_r0
  let c1_i32_1490_r0 : BitVec 32 := 1#32
  let v1835_r0 : BitVec 32 := Scalar.select v1834_r0 c1_i32_1490_r0 c8_i32_1488_r0
  let v1836_r0 : BitVec 32 := Scalar.remsi v1833_r0 v1835_r0
  let c0_i32_1492_r0 : BitVec 32 := 0#32
  let v1838_r0 : BitVec 1 := Scalar.cmpi .slt v1836_r0 c0_i32_1492_r0
  let c0_i32_1493_r0 : BitVec 32 := 0#32
  let v1839_r0 : BitVec 1 := Scalar.cmpi .slt v1835_r0 c0_i32_1493_r0
  let v1840_r0 : BitVec 1 := Scalar.xori v1838_r0 v1839_r0
  let c0_i32_1491_r0 : BitVec 32 := 0#32
  let v1837_r0 : BitVec 1 := Scalar.cmpi .ne v1836_r0 c0_i32_1491_r0
  let v1841_r0 : BitVec 1 := Scalar.andi v1840_r0 v1837_r0
  let v1842_r0 : BitVec 32 := Scalar.addi v1836_r0 v1835_r0
  let v1843_r0 : BitVec 32 := Scalar.select v1841_r0 v1842_r0 v1836_r0
  let c1_i32_1495_r0 : BitVec 32 := 1#32
  let v1844_r0 : BitVec 32 := Scalar.muli v1843_r0 c1_i32_1495_r0
  let v1845_r0 : BitVec 32 := Scalar.addi c0_i32_1496_r0 v1844_r0
  v1845_r0.toNat
def k0_dev20 (d0 : Dev nD) : Nat :=
  let c0_i32_1506_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1497_r0 : BitVec 32 := 6#32
  let v1846_r0 : BitVec 32 := Scalar.addi v2 c6_i32_1497_r0
  let c8_i32_1498_r0 : BitVec 32 := 8#32
  let c0_i32_1499_r0 : BitVec 32 := 0#32
  let v1847_r0 : BitVec 1 := Scalar.cmpi .eq c8_i32_1498_r0 c0_i32_1499_r0
  let c1_i32_1500_r0 : BitVec 32 := 1#32
  let v1848_r0 : BitVec 32 := Scalar.select v1847_r0 c1_i32_1500_r0 c8_i32_1498_r0
  let v1849_r0 : BitVec 32 := Scalar.remsi v1846_r0 v1848_r0
  let c0_i32_1502_r0 : BitVec 32 := 0#32
  let v1851_r0 : BitVec 1 := Scalar.cmpi .slt v1849_r0 c0_i32_1502_r0
  let c0_i32_1503_r0 : BitVec 32 := 0#32
  let v1852_r0 : BitVec 1 := Scalar.cmpi .slt v1848_r0 c0_i32_1503_r0
  let v1853_r0 : BitVec 1 := Scalar.xori v1851_r0 v1852_r0
  let c0_i32_1501_r0 : BitVec 32 := 0#32
  let v1850_r0 : BitVec 1 := Scalar.cmpi .ne v1849_r0 c0_i32_1501_r0
  let v1854_r0 : BitVec 1 := Scalar.andi v1853_r0 v1850_r0
  let v1855_r0 : BitVec 32 := Scalar.addi v1849_r0 v1848_r0
  let v1856_r0 : BitVec 32 := Scalar.select v1854_r0 v1855_r0 v1849_r0
  let c1_i32_1505_r0 : BitVec 32 := 1#32
  let v1857_r0 : BitVec 32 := Scalar.muli v1856_r0 c1_i32_1505_r0
  let v1858_r0 : BitVec 32 := Scalar.addi c0_i32_1506_r0 v1857_r0
  v1858_r0.toNat
def k0_dev21 (d0 : Dev nD) : Nat :=
  let c0_i32_1516_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1507_r0 : BitVec 32 := 7#32
  let v1859_r0 : BitVec 32 := Scalar.addi v2 c7_i32_1507_r0
  let c8_i32_1508_r0 : BitVec 32 := 8#32
  let c0_i32_1509_r0 : BitVec 32 := 0#32
  let v1860_r0 : BitVec 1 := Scalar.cmpi .eq c8_i32_1508_r0 c0_i32_1509_r0
  let c1_i32_1510_r0 : BitVec 32 := 1#32
  let v1861_r0 : BitVec 32 := Scalar.select v1860_r0 c1_i32_1510_r0 c8_i32_1508_r0
  let v1862_r0 : BitVec 32 := Scalar.remsi v1859_r0 v1861_r0
  let c0_i32_1512_r0 : BitVec 32 := 0#32
  let v1864_r0 : BitVec 1 := Scalar.cmpi .slt v1862_r0 c0_i32_1512_r0
  let c0_i32_1513_r0 : BitVec 32 := 0#32
  let v1865_r0 : BitVec 1 := Scalar.cmpi .slt v1861_r0 c0_i32_1513_r0
  let v1866_r0 : BitVec 1 := Scalar.xori v1864_r0 v1865_r0
  let c0_i32_1511_r0 : BitVec 32 := 0#32
  let v1863_r0 : BitVec 1 := Scalar.cmpi .ne v1862_r0 c0_i32_1511_r0
  let v1867_r0 : BitVec 1 := Scalar.andi v1866_r0 v1863_r0
  let v1868_r0 : BitVec 32 := Scalar.addi v1862_r0 v1861_r0
  let v1869_r0 : BitVec 32 := Scalar.select v1867_r0 v1868_r0 v1862_r0
  let c1_i32_1515_r0 : BitVec 32 := 1#32
  let v1870_r0 : BitVec 32 := Scalar.muli v1869_r0 c1_i32_1515_r0
  let v1871_r0 : BitVec 32 := Scalar.addi c0_i32_1516_r0 v1870_r0
  v1871_r0.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x4096, .bf16⟩
  | .hbm, ⟨3, _⟩ => ⟨S4096x8192, .bf16⟩
  | .hbm, ⟨4, _⟩ => ⟨S4096x8192, .f32⟩
  | .hbm, ⟨5, _⟩ => ⟨S4096x8192, .bf16⟩
  | .hbm, ⟨6, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Flat.lean ====
/- The kernel's body written once more as a short program: the statements of the printed body are the same few operations
   at different slots, tiles and peers, so they are given here as functions of the slot, the tile and the peer, and the
   body as loops over them. `body_eq` says that this program IS the printed body. -/
module

public import proofs.«01_k».proof.Proof.Gen.KernelIdeal
public import proofs.«01_k».proof.Proof.Gen.KernelIdeal.Skeleton
public import Idealize.ShloMosaic.Lib.Pipeline.Regions

@[expose] public section

set_option maxRecDepth 16384

noncomputable section

namespace Cert.KernelIdeal.Own

open Idealize.ShloMosaic Idealize.SL.Sem
open Cert.KernelIdeal Cert.KernelIdeal.Gen

variable {F : FTy → Type} [FloatOps F]

-- The programs of one core of this kernel.
local notation "ℙ" => Prog (TpuEff nD τ sig (Elt F) Λ₀ Proc.tc)

/-- Run `body 0`, …, `body (n - 1)` in order. -/
def upTo (body : ℕ → ℙ PUnit) : ℕ → ℙ PUnit
  | 0 => pure ⟨⟩
  | n + 1 => do
    upTo body n
    body n

/-- Run `body 0`, …, `body (n - 1)` in order, each on the value the one before it gave. -/
def foldTo {α : Type} (body : ℕ → α → ℙ α) (a : α) : ℕ → ℙ α
  | 0 => pure a
  | n + 1 => do
    let b ← foldTo body a n
    body n b

/-! ## Buffers, slots and semaphores -/

abbrev xV : Memref sig .tc .vmem S4096x512 .f32 := Memref.whole cc0_stg0_0
abbrev wV : Memref sig .tc .hbm S4096x8192 .f32 := Memref.whole main_arg1
abbrev oV : Memref sig .tc .hbm S512x8192 .f32 := Memref.whole main_v1
abbrev bV : Memref sig .tc .vmem S4096x512 .bf16 := Memref.whole cc0_scratch0
abbrev cV : Memref sig .tc .vmem S8x512x512 .bf16 := Memref.whole cc0_scratch1
abbrev wbV : Memref sig .tc .vmem S3x512x2048 .f32 := Memref.whole cc0_scratch2
abbrev obV : Memref sig .tc .vmem S2x512x2048 .f32 := Memref.whole cc0_scratch3

/-- The barrier's semaphore, -/
abbrev barS : Sem sig := (SemArray.scalar (sig.barrier 0 rfl) : Sems sig S_).sem
/-- the closing rendezvous' semaphore, -/
abbrev endS : Sem sig := cc0_scoped0.sem
/-- and the DMA semaphore number `n` (the pool has 22; a number past it stands for the last). -/
def dS (n : ℕ) : DmaSem sig := (⟨min n 21, by omega⟩ : Fin 22)
abbrev sendS (r : ℕ) : DmaSem sig := dS (1 + r)
abbrev recvS (r : ℕ) : DmaSem sig := dS (9 + r)
abbrev wS (k : ℕ) : DmaSem sig := dS (17 + k)
abbrev oS (k : ℕ) : DmaSem sig := dS (20 + k)

/-- Slot `k` lies in the receive buffer. -/
theorem inbC (k : ℕ) : ∀ a, (![min k 7, 0, 0] : Fin 3 → ℕ) a + S1x512x512.size a ≤ S8x512x512.size a := by
  intro a; fin_cases a <;> simp [S1x512x512, S8x512x512] <;> omega
/-- Slot `k` lies in the weight buffer. -/
theorem inbW (k : ℕ) : ∀ a, (![min k 2, 0, 0] : Fin 3 → ℕ) a + S1x512x2048.size a ≤ S3x512x2048.size a := by
  intro a; fin_cases a <;> simp [S1x512x2048, S3x512x2048] <;> omega
/-- Slot `k` lies in the output buffer. -/
theorem inbO (k : ℕ) : ∀ a, (![min k 1, 0, 0] : Fin 3 → ℕ) a + S1x512x2048.size a ≤ S2x512x2048.size a := by
  intro a; fin_cases a <;> simp [S1x512x2048, S2x512x2048] <;> omega
/-- Chunk `h` lies in the result. -/
theorem inbV (h : ℕ) : ∀ a, (![0, 2048 * min h 3] : Fin 2 → ℕ) a + S512x2048.size a ≤ S512x8192.size a := by
  intro a; fin_cases a <;> simp [S512x2048, S512x8192] <;> omega

/-- The rectangles: a slot of the receive buffer, of the weight buffer, of the output buffer; a column chunk of the result. -/
abbrev rC (k : ℕ) : Rect S8x512x512 := Rect.unit ![min k 7, 0, 0] S1x512x512.size (inbC k)
abbrev rW (k : ℕ) : Rect S3x512x2048 := Rect.unit ![min k 2, 0, 0] S1x512x2048.size (inbW k)
abbrev rO (k : ℕ) : Rect S2x512x2048 := Rect.unit ![min k 1, 0, 0] S1x512x2048.size (inbO k)
abbrev rV (h : ℕ) : Rect S512x8192 := Rect.unit ![0, 2048 * min h 3] S512x2048.size (inbV h)

/-- A slot of the receive buffer is made of whole words, -/
theorem wordsC (k : ℕ) : (rC k).WholeWords (EltTy.packing .bf16) :=
  (by decide +kernel : ∀ j : Fin 8, S8x512x512.WholeWordsAt (EltTy.packing .bf16) ![j.val, 0, 0] S1x512x512.size (fun _ => 1)) ⟨min k 7, by omega⟩

abbrev cSlot (k : ℕ) : Memref sig .tc .vmem S512x512 .bf16 := (cV.slice (rC k) (fun _ => rfl)).squeeze S512x512 squeezes_S1x512x512_S512x512
abbrev wSlot (k : ℕ) : Memref sig .tc .vmem S512x2048 .f32 := (wbV.slice (rW k) (fun _ => rfl)).squeeze S512x2048 squeezes_S1x512x2048_S512x2048
abbrev oSlot (k : ℕ) : Memref sig .tc .vmem S512x2048 .f32 := (obV.slice (rO k) (fun _ => rfl)).squeeze S512x2048 squeezes_S1x512x2048_S512x2048
abbrev oChunk (h : ℕ) : Memref sig .tc .hbm S512x2048 .f32 := oV.slice (rV h) (fun _ => rfl)

/-- also as the matrix it holds. -/
theorem cSlot_words (k : ℕ) : (cSlot k).view.WordExact :=
  ((Memref.isWhole_whole cc0_scratch1).wordExact_slice rfl _ (wordsC k)).reshape _ _

/-! ## What depends on the device: the peers and the offsets, as printed -/

/-- The weight tile of column chunk `h` whose rows are those of the device `s` places on; -/
def offWh (d : Dev nD) : ℕ → Fin 8 → Fin 2 → ℕ
  | 0, s => k0_off1 d (BitVec.ofNat 32 s.val)
  | 1, s => k0_off4 d (BitVec.ofNat 32 s.val)
  | 2, s => k0_off5 d (BitVec.ofNat 32 s.val)
  | _ + 3, s => k0_off6 d (BitVec.ofNat 32 s.val)
/-- it lies in the weights; -/
theorem offWh_inb (d : Dev nD) : ∀ (h : ℕ) (s : Fin 8) (a : Fin 2), offWh d h s a + S512x2048.size a ≤ S4096x8192.size a
  | 0, s => k0_off1_inb d s
  | 1, s => k0_off4_inb d s
  | 2, s => k0_off5_inb d s
  | _ + 3, s => k0_off6_inb d s
/-- the same tile by its number `t = 8 h + s`, -/
def offW (d : Dev nD) (t : ℕ) : Fin 2 → ℕ := offWh d (t / 8) ⟨t % 8, Nat.mod_lt _ (by decide)⟩
/-- which lies there too. -/
theorem offW_inb (d : Dev nD) (t : ℕ) (a : Fin 2) : offW d t a + S512x2048.size a ≤ S4096x8192.size a := offWh_inb d _ _ a

/-- The rows of the converted shard sent at distance `r = i + 1`. -/
def offS (d : Dev nD) (i : ℕ) : Fin 2 → ℕ := k0_off2 d (BitVec.ofNat 32 (1 + (⟨min i 6, by omega⟩ : Fin 7).val))
/-- The rows sent lie in the shard -/
theorem offS_inb (d : Dev nD) (i : ℕ) : ∀ a, offS d i a + S512x512.size a ≤ S4096x512.size a := k0_off2_inb d ⟨min i 6, by omega⟩
/-- and are made of whole words. -/
theorem offS_words (d : Dev nD) (i : ℕ) : (Rect.unit (s := S4096x512) (offS d i) S512x512.size (offS_inb d i)).WholeWords (EltTy.packing .bf16) :=
  k0_off2_wordsbf16 d ⟨min i 6, by omega⟩

/-- The peers signalled at the barrier, sent to, and signalled at the close, `r = i + 1` places on or back. -/
def devB (d : Dev nD) : ℕ → Dev nD
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩
  | 4 => ⟨k0_dev5 d, k0_dev5_lt d⟩ | 5 => ⟨k0_dev6 d, k0_dev6_lt d⟩ | _ => ⟨k0_dev7 d, k0_dev7_lt d⟩
def devS (d : Dev nD) : ℕ → Dev nD
  | 0 => ⟨k0_dev8 d, k0_dev8_lt d⟩ | 1 => ⟨k0_dev9 d, k0_dev9_lt d⟩ | 2 => ⟨k0_dev10 d, k0_dev10_lt d⟩ | 3 => ⟨k0_dev11 d, k0_dev11_lt d⟩
  | 4 => ⟨k0_dev12 d, k0_dev12_lt d⟩ | 5 => ⟨k0_dev13 d, k0_dev13_lt d⟩ | _ => ⟨k0_dev14 d, k0_dev14_lt d⟩
def devE (d : Dev nD) : ℕ → Dev nD
  | 0 => ⟨k0_dev15 d, k0_dev15_lt d⟩ | 1 => ⟨k0_dev16 d, k0_dev16_lt d⟩ | 2 => ⟨k0_dev17 d, k0_dev17_lt d⟩ | 3 => ⟨k0_dev18 d, k0_dev18_lt d⟩
  | 4 => ⟨k0_dev19 d, k0_dev19_lt d⟩ | 5 => ⟨k0_dev20 d, k0_dev20_lt d⟩ | _ => ⟨k0_dev21 d, k0_dev21_lt d⟩

abbrev wTile (off : Fin 2 → ℕ) (h : ∀ a, off a + S512x2048.size a ≤ S4096x8192.size a) : Memref sig .tc .hbm S512x2048 .f32 :=
  wV.slice (Rect.unit (s := S4096x8192) off S512x2048.size h) (fun _ => rfl)
abbrev bRows (off : Fin 2 → ℕ) (h : ∀ a, off a + S512x512.size a ≤ S4096x512.size a) : Memref sig .tc .vmem S512x512 .bf16 :=
  bV.slice (Rect.unit (s := S4096x512) off S512x512.size h) (fun _ => rfl)

/-! ## The operations -/

/-- Start the copy of weight tile `t` into its slot; -/
def startW (d : Dev nD) (t : ℕ) : ℙ PUnit :=
  Prog.lift (.enqueueDma (wTile (offW d t) (offW_inb d t)) (.here (wSlot (t % 3))) (.dma (wS (t % 3))) (View.wordExact_bits rfl) ((View.wordExact_bits rfl).reshape _ _) ⟨Or.inl rfl, trivial⟩)
/-- wait for it. -/
def waitW (d : Dev nD) (t : ℕ) : ℙ PUnit :=
  Prog.lift (.waitDma2 (wS (t % 3)) (wTile (offW d t) (offW_inb d t)) (wSlot (t % 3)) (View.wordExact_bits rfl) ((View.wordExact_bits rfl).reshape _ _))
/-- Send the rows the peer `i + 1` places back needs into its slot `i + 1`; -/
def sendR (d : Dev nD) (i : ℕ) : ℙ PUnit :=
  Prog.lift (.enqueueDma (bRows (offS d i) (offS_inb d i)) (.remote (Dev.tc (devS d i)) (cSlot (i + 1)) (.dma (sendS (i + 1)))) (.dma (recvS (i + 1)))
    ((Memref.isWhole_whole cc0_scratch0).wordExact_slice rfl _ (offS_words d i)) (cSlot_words (i + 1)) ⟨⟨rfl, Or.inl rfl⟩, trivial⟩)
/-- wait for the rows sent here into slot `s`; -/
def waitR (s : ℕ) : ℙ PUnit :=
  Prog.lift (.waitDma2 (recvS s) (cSlot s) (cSlot s) (cSlot_words s) (cSlot_words s))
/-- wait until the own rows have left. -/
def waitS (d : Dev nD) (i : ℕ) : ℙ PUnit :=
  Prog.lift (.waitDma2 (sendS (i + 1)) (cSlot (i + 1)) (bRows (offS d i) (offS_inb d i)) (cSlot_words (i + 1)) ((Memref.isWhole_whole cc0_scratch0).wordExact_slice rfl _ (offS_words d i)))
/-- Start the copy of output chunk `h` into the result; -/
def startO (h : ℕ) : ℙ PUnit :=
  Prog.lift (.enqueueDma (oSlot (h % 2)) (.here (oChunk h)) (.dma (oS (h % 2))) ((View.wordExact_bits rfl).reshape _ _) (View.wordExact_bits rfl) ⟨Or.inl rfl, trivial⟩)
/-- wait for it. -/
def waitO (h : ℕ) : ℙ PUnit :=
  Prog.lift (.waitDma2 (oS (h % 2)) (oSlot (h % 2)) (oChunk h) ((View.wordExact_bits rfl).reshape _ _) (View.wordExact_bits rfl))

/-- The left factor of step `s`: the own rows at `s = 0`, the rows received into slot `s` after. -/
def loadA (d : Dev nD) (s : ℕ) : ℙ (Vec F S512x512 .bf16) :=
  match s with
  | 0 => Prog.lift (.load bV (Rect.unit (s := S4096x512) (k0_off3 d) S512x512.size (k0_off3_inb d)).toLoadRect (View.loadsAt_vmem h_S512x512))
  | s + 1 => do
    let v : Vec F S1x512x512 .bf16 ← Prog.lift (.load cV (rC (s + 1)).toLoadRect (View.loadsAt_vmem h_S1x512x512))
    pure (shapeCast S512x512 v shapeCasts_S1x512x512_S512x512)
/-- The right factor: the weight tile in slot `k`, -/
def loadB (k : ℕ) : ℙ (Vec F S1x512x2048 .f32) :=
  Prog.lift (.load wbV (rW k).toLoadRect (View.loadsAt_vmem h_S1x512x2048))

/-- the product of the two, the weights rounded to bfloat16 first, -/
def mul (a : Vec F S512x512 .bf16) (b : Vec F S1x512x2048 .f32) : FVec F S512x2048 .f32 :=
  matmul dot_S512x512_S512x2048_S512x2048_1_0_0_1_n_n none a
    (truncf .bf16 (shapeCast S512x2048 b shapeCasts_S1x512x2048_S512x2048 : FVec F S512x2048 .f32) bitsLt_bf16_f32) (constant S512x2048 .f32 0x00000000#32)
/-- added to what has accumulated. -/
def accum (s : ℕ) (acc p : FVec F S512x2048 .f32) : FVec F S512x2048 .f32 :=
  match s with
  | 0 => p
  | _ + 1 => addf acc p

/-- Step `t = 8 h + s` of the product: the tile two steps on is started, this step's tile and (in the first chunk) rows
    are waited for, their product accumulated. -/
def step (d : Dev nD) (h s : ℕ) (acc : FVec F S512x2048 .f32) : ℙ (FVec F S512x2048 .f32) := do
  (if 8 * h + s + 2 < 32 then startW d (8 * h + s + 2) else pure ⟨⟩)
  waitW d (8 * h + s)
  (if 8 * h + s < 8 ∧ s ≠ 0 then waitR s else pure ⟨⟩)
  let a ← loadA d s
  let b ← loadB ((8 * h + s) % 3)
  pure (accum s acc (mul a b))

/-- Column chunk `h` of the result: eight steps, then the chunk is written to its slot and its copy out started, the copy
    two chunks before waited for first. -/
def chunk (d : Dev nD) (h : ℕ) : ℙ PUnit := do
  let acc ← foldTo (step d h) (constant S512x2048 .f32 0x00000000#32) 8
  (if 2 ≤ h then waitO (h - 2) else pure ⟨⟩)
  let _ : Vec F S1x512x2048 .f32 ← Prog.lift (.load obV (rO (h % 2)).toLoadRect (View.loadsAt_vmem h_S1x512x2048))
  Prog.lift (.store obV (rO (h % 2)) (shapeCast S1x512x2048 acc shapeCasts_S512x2048_S1x512x2048 : FVec F S1x512x2048 .f32) Finset.univ (View.stores_vmem_bits_univ h_S1x512x2048 rfl) (.inl rfl))
  startO h

/-- The staged shard is rounded to bfloat16 and kept. -/
def convert : ℙ PUnit := do
  let v : Vec F S4096x512 .f32 ← Prog.lift (.load xV (Rect.unit (s := S4096x512) ![0, 0] S4096x512.size inb_S4096x512_S4096x512_0_0).toLoadRect (View.loadsAt_vmem h_S4096x512))
  let _ : Vec F S4096x512 .bf16 ← Prog.lift (.load bV (Rect.unit (s := S4096x512) ![0, 0] S4096x512.size inb_S4096x512_S4096x512_0_0).toLoadRect (View.loadsAt_vmem h_S4096x512))
  Prog.lift (.store bV (Rect.unit (s := S4096x512) ![0, 0] S4096x512.size inb_S4096x512_S4096x512_0_0) (k0_pay1 v) Finset.univ
    (View.stores_vmem h_S4096x512 ((Memref.isWhole_whole cc0_scratch0).storeExact_slice rfl _ packedbf16_S4096x512_S4096x512_0_0) (fun _ => rfl)) (.inl rfl))

/-- The body, of a core of device `d`. -/
def bodyOf (d : Dev nD) : ℙ PUnit := do
  startW d 0
  startW d 1
  convert
  upTo (fun i => semSignalWord (devB d i) barS 1#32) 7
  semWaitWord barS 7#32
  upTo (sendR d) 7
  upTo (chunk d) 4
  waitO 2
  waitO 3
  upTo (waitS d) 7
  upTo (fun i => semSignalWord (devE d i) endS 1#32) 7
  semWaitWord endS 7#32

/-- The body: the core reads which device it is on, then runs its body. -/
def body : ℙ PUnit := do
  let d : Dev nD ← Prog.lift .deviceId
  bodyOf d

set_option maxRecDepth 1000000 in
/-- The printed body is this program. -/
theorem body_eq : cc0_body (F := F) xV (Memref.isWhole_whole _) wV (Memref.isWhole_whole _) oV (Memref.isWhole_whole _) bV (Memref.isWhole_whole _) cV (Memref.isWhole_whole _)
    wbV (Memref.isWhole_whole _) obV (Memref.isWhole_whole _) cc0_scratch4 cc0_scratch5 cc0_scratch6 cc0_scratch7 cc0_scoped0 = body (F := F) := by
  rw [cc0_body_eq_skeleton]
  chain_rfl

end Cert.KernelIdeal.Own

end
-- ==== Proof.Sched.lean ====
/- The devices' protocol: who signals and sends to whom, which buffer parts each signal and each transfer hands over, what a
   core owes at each point of its body, and the order of the semaphores that makes every wait end. -/
module

public import proofs.«01_k».proof.Proof.Flat
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the staging's rounds, this protocol's rounds (duties numbered), the local copies' counters -/

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER (F := F)).LandsIn (upEmb : UEmb _ 𝕄) := by unfold ER embR; infer_instance

variable (m : (ℓ : Loc nD τ sig) → Buf (Elt F) ℓ)

/-! ## The devices on a circle -/

/-- The device `n` places on, -/
def up (c : Dev nD) (n : ℕ) : Dev nD := ⟨(c.val + n) % 8, Nat.mod_lt _ (by decide)⟩
/-- and `n` places back. -/
def dn (c : Dev nD) (n : ℕ) : Dev nD := up c (8 - n)

/-- The number of the device `n` places on. -/
theorem up_val (c : Dev nD) (n : ℕ) : (up c n).val = (c.val + n) % 8 := rfl
/-- No places on is the device itself. -/
theorem up_zero (c : Dev nD) : up c 0 = c := by revert c; decide
/-- Going back and then on by the same number of places is staying. -/
theorem up_dn (c : Dev nD) {n : ℕ} (hn : n ≤ 8) : up (dn c n) n = c := by
  have hc : c.val < 8 := c.isLt
  apply Fin.ext; rw [up_val, dn, up_val]; omega
/-- Going on and then back by the same number of places is staying. -/
theorem dn_up (c : Dev nD) {n : ℕ} (hn : n ≤ 8) : dn (up c n) n = c := by
  have hc : c.val < 8 := c.isLt
  apply Fin.ext; rw [dn, up_val, up_val]; omega

/-- The circle turned by `n` places. -/
def turn (n : ℕ) (hn : n ≤ 8) : Dev nD ≃ Dev nD := ⟨fun c => up c n, fun c => dn c n, fun c => dn_up c hn, fun c => up_dn c hn⟩

/-- The peers the program computes: -/
theorem devB_eq (d : Dev nD) {i : ℕ} (hi : i < 7) : devB d i = up d (i + 1) :=
  (by decide +kernel : ∀ (d : Dev nD) (i : Fin 7), devB d i.val = up d (i.val + 1)) d ⟨i, hi⟩
/-- the device sent to is `i + 1` places back, -/
theorem devS_eq (d : Dev nD) {i : ℕ} (hi : i < 7) : devS d i = dn d (i + 1) :=
  (by decide +kernel : ∀ (d : Dev nD) (i : Fin 7), devS d i.val = dn d (i.val + 1)) d ⟨i, hi⟩
/-- the device signalled at the close `i + 1` places on; -/
theorem devE_eq (d : Dev nD) {i : ℕ} (hi : i < 7) : devE d i = up d (i + 1) :=
  (by decide +kernel : ∀ (d : Dev nD) (i : Fin 7), devE d i.val = up d (i.val + 1)) d ⟨i, hi⟩
/-- and the rows it sends: those of the peer. -/
theorem offS_eq (d : Dev nD) {i : ℕ} (hi : i < 7) : offS d i = ![512 * min (dn d (i + 1)).val 7, 0] :=
  (by decide +kernel : ∀ (d : Dev nD) (i : Fin 7), offS d i.val = ![512 * min (dn d (i.val + 1)).val 7, 0]) d ⟨i, hi⟩
/-- The rows the core multiplies itself are its own. -/
theorem off3_eq (d : Dev nD) : k0_off3 d = ![512 * min d.val 7, 0] := by revert d; decide +kernel

/-! ## Contents -/

/-- A block of rows lies in the shard. -/
theorem inbB (e : ℕ) : ∀ a, (![512 * min e 7, 0] : Fin 2 → ℕ) a + S512x512.size a ≤ S4096x512.size a := by
  intro a; fin_cases a <;> simp [S512x512, S4096x512] <;> omega
/-- The `e`-th block of 512 rows of a shard. -/
abbrev rB (e : ℕ) : Rect S4096x512 := Rect.unit ![512 * min e 7, 0] S512x512.size (inbB e)
abbrev bRow (e : ℕ) : Memref sig .tc .vmem S512x512 .bf16 := bV.slice (rB e) (fun _ => rfl)

/-- The shard of `x` device `c` holds, rounded; -/
def shard (c : Dev nD) : S4096x512.Idx → Elt F .bf16 := k0_pay1 (m ((c : Thread nD τ).loc main_arg0))
/-- its `e`-th block of rows; -/
def rows (c : Dev nD) (e : ℕ) : S512x512.Idx → Elt F .bf16 := fun j => shard m c ((rB e).emb j)
/-- the weights of device `c`; -/
def wts (c : Dev nD) : S4096x8192.Idx → Elt F .f32 := m ((c : Thread nD τ).loc main_arg1)
/-- weight tile `t`. -/
def tile (c : Dev nD) (t : ℕ) : S512x2048.Idx → Elt F .f32 := fun j => wts m c ((Rect.unit (s := S4096x8192) (offW c t) S512x2048.size (offW_inb c t)).emb j)
/-- The left factor of step `s` on device `c`: the rows of `c` in the shard of the device `s` places on. -/
def lhs (c : Dev nD) (s : ℕ) : S512x512.Idx → Elt F .bf16 := rows m (up c s) c
/-- The product of a left factor with a weight tile. -/
def mulT (a : FVec F S512x512 .bf16) (b : FVec F S512x2048 .f32) : FVec F S512x2048 .f32 :=
  matmul dot_S512x512_S512x2048_S512x2048_1_0_0_1_n_n none a (truncf .bf16 b bitsLt_bf16_f32) (constant S512x2048 .f32 0x00000000#32)
/-- What has accumulated of column chunk `h` before step `s`. -/
def accAt (c : Dev nD) (h : ℕ) : ℕ → FVec F S512x2048 .f32
  | 0 => constant S512x2048 .f32 0x00000000#32
  | s + 1 => accum s (accAt c h s) (mulT (lhs m c s) (tile m c (8 * h + s)))
/-- The result of device `c`: its column chunks side by side. -/
def outAt (c : Dev nD) : S512x8192.Idx → Elt F .f32 := fun i =>
  accAt m c ((i 1).val / 2048) 8 (fun a => match a with | ⟨0, _⟩ => (i 0 : Fin 512) | ⟨1, _⟩ => (⟨(i 1).val % 2048, Nat.mod_lt _ (by decide)⟩ : Fin 2048))

/-! ## The cells -/

abbrev barCell (c : Dev nD) : GSem nD τ sig := ((c : Thread nD τ), .reg barS)
abbrev endCell (c : Dev nD) : GSem nD τ sig := ((c : Thread nD τ), .reg endS)
abbrev sendCell (c : Dev nD) (r : ℕ) : GSem nD τ sig := ((c : Thread nD τ), .dma (sendS r))
abbrev recvCell (c : Dev nD) (r : ℕ) : GSem nD τ sig := ((c : Thread nD τ), .dma (recvS r))

/-- The credit of one block of rows. -/
abbrev NB : ℕ := (cSlot 1).view.dmaCredit
/-- It is positive. -/
theorem NB_pos : 0 < NB := View.dmaCredit_pos _ (by decide)
/-- A slot has that credit, -/
theorem credit_c (r : ℕ) : (cSlot r).view.dmaCredit = NB := rfl
/-- and a block of rows. -/
theorem credit_b (e : ℕ) : (bRow e).view.dmaCredit = NB := rfl

/-- What a semaphore is for: the opening barrier, the closing rendezvous, the departure of the rows sent at distance `r`, the
    arrival of those received at distance `r`, or none of these. -/
inductive Use | opening | closing | departure (r : ℕ) | arrival (r : ℕ) | other
deriving DecidableEq

def use : SemLoc sig → Use
  | .reg s => if s = barS then .opening else .closing
  | .dma q => if 2 ≤ (q : Fin 22).val ∧ (q : Fin 22).val ≤ 8 then .departure ((q : Fin 22).val - 1)
      else if 10 ≤ (q : Fin 22).val ∧ (q : Fin 22).val ≤ 16 then .arrival ((q : Fin 22).val - 9) else .other

/-- The barrier's semaphore opens, -/
theorem use_bar : use (.reg barS) = .opening := rfl
/-- the rendezvous' closes, -/
theorem use_end : use (.reg endS) = .closing := rfl
/-- a send semaphore marks a departure -/
theorem use_send {i : ℕ} (hi : i < 7) : use (.dma (sendS (i + 1))) = .departure (i + 1) :=
  (by decide +kernel : ∀ i : Fin 7, use (.dma (sendS (i.val + 1))) = .departure (i.val + 1)) ⟨i, hi⟩
/-- and a receive semaphore an arrival. -/
theorem use_recv {i : ℕ} (hi : i < 7) : use (.dma (recvS (i + 1))) = .arrival (i + 1) :=
  (by decide +kernel : ∀ i : Fin 7, use (.dma (recvS (i.val + 1))) = .arrival (i.val + 1)) ⟨i, hi⟩

/-! ## The schedule -/

/-- A memref's elements owned whole at some contents. -/
abbrev some' (c : Dev nD) {sp : Space} {s : Shape} {e : EltTy} (v : Memref sig .tc sp s e) : sProp 𝕄 :=
  iprop(∃ Y : s.Idx → Elt F e, owns (c : Thread nD τ) v fullShare Y)

/-- What device `d`'s signal to the device `i + 1` places on hands over: the slot `d` receives that device's rows into, and
    that nothing has arrived there yet. -/
def handOver (c : Dev nD) (i : ℕ) : sProp 𝕄 :=
  iprop(some' (dn c (i + 1)) (cSlot (i + 1)) ∗ reached ER (recvCell (dn c (i + 1)) (i + 1)) 0)

/-- What duty `i` of a cell of device `c` brings, by the cell's use. -/
def brings (c : Dev nD) (i : ℕ) : Use → sProp 𝕄
  | .opening => handOver c i
  | .departure r => owns (c : Thread nD τ) (bRow (dn c r)) fullShare (rows m c (dn c r))
  | .arrival r => owns (c : Thread nD τ) (cSlot r) fullShare (lhs m c r)
  | _ => iprop(emp)

def dutiesOf : Use → Finset ℕ
  | .opening | .closing => Finset.range 7
  | .departure _ | .arrival _ => {0}
  | .other => ∅

def amountOf : Use → ℕ
  | .opening | .closing => 1
  | _ => NB

/-- One round per cell: an opening and a closing cell take one unit from each of the seven other devices, a departure or
    arrival cell the credit of one block. -/
def rd : Rounds.Schedule (GSem nD τ sig) ℕ 𝕄 where
  duties g r := if r = 0 ∧ g.1.2 = .tc then dutiesOf (use g.2) else ∅
  unitless _ := False
  amount g _ _ := amountOf (use g.2)
  payload g _ i := brings m g.1.1 i (use g.2)
  amount_pos g _ _ _ := by
    cases use g.2 <;> first | exact Nat.one_pos | exact NB_pos

instance rd_payload_storable (g : GSem nD τ sig) (r : ℕ) (d : ℕ) : BI.Storable (upEmb : UEmb _ 𝕄) ((rd (F := F) m).payload g r d) := by
  show BI.Storable upEmb (brings m g.1.1 d (use g.2))
  cases use g.2 <;> (unfold brings; try unfold handOver) <;> infer_instance

section Facts
variable (c : Dev nD)

/-- The duties of a cell of device `c` are those of its use. -/
theorem duties_eq (sm : SemLoc sig) : (rd (F := F) m).duties ((c : Thread nD τ), sm) 0 = dutiesOf (use sm) := by
  dsimp only [rd]; exact if_pos ⟨rfl, rfl⟩
/-- No cell has a second round. -/
theorem duties_later (g : GSem nD τ sig) : ∀ r, 1 ≤ r → (rd (F := F) m).duties g r = ∅ :=
  fun r hr => by dsimp only [rd]; rw [if_neg fun h => by omega]
/-- An opening or a closing cell expects seven units, -/
theorem expect_units {sm : SemLoc sig} (h : use sm = .opening ∨ use sm = .closing) : (rd (F := F) m).expect ((c : Thread nD τ), sm) 0 = 7 := by
  unfold Schedule.expect Schedule.amountOf
  rw [duties_eq]
  rcases h with h | h <;> (dsimp only [rd]; rw [h]; rfl)
/-- a departure or arrival cell the credit of one block. -/
theorem expect_block {sm : SemLoc sig} (h : dutiesOf (use sm) = {0}) (h' : amountOf (use sm) = NB) :
    (rd (F := F) m).expect ((c : Thread nD τ), sm) 0 = NB := by
  unfold Schedule.expect Schedule.amountOf
  rw [duties_eq, h, Finset.sum_singleton]
  exact h'
/-- All a round of a cell of device `c` brings. -/
theorem rest_eq (sm : SemLoc sig) :
    bigSep ((rd (F := F) m).duties ((c : Thread nD τ), sm) 0 \ ∅) (fun d => (rd (F := F) m).payload ((c : Thread nD τ), sm) 0 d)
      = bigSep (dutiesOf (use sm)) (fun i => brings m c i (use sm)) := by
  rw [Finset.sdiff_empty, duties_eq]; rfl

end Facts

/-! ## What a core owes, and the levels -/

open Finset in
/-- What device `c` owes after `b` opening signals, `s` sends and `e` closing signals. -/
def owing (c : Dev nD) (b s e : ℕ) : CellTallies nD τ sig Unit :=
  (∑ i ∈ Ico b 7, tallyAt (barCell (up c (i + 1))) () 1) + (∑ i ∈ Ico s 7, tallyAt (recvCell (dn c (i + 1)) (i + 1)) () NB)
    + ∑ i ∈ Ico e 7, tallyAt (endCell (up c (i + 1))) () 1

/-- A sum up to 7 is its rest and its first part. -/
theorem sum_peel {M : Type} [AddCommMonoid M] (f : ℕ → M) {b : ℕ} (h : b < 7) :
    ∑ i ∈ Finset.Ico b 7, f i = ∑ i ∈ Finset.Ico (b + 1) 7, f i + f b := by
  rw [show Finset.Ico b 7 = insert b (Finset.Ico (b + 1) 7) by ext i; simp only [Finset.mem_insert, Finset.mem_Ico]; omega,
    Finset.sum_insert (fun h' => by rw [Finset.mem_Ico] at h'; omega), add_comm]

/-- An opening signal pays one part of it, -/
theorem owing_bar (c : Dev nD) {b s e : ℕ} (h : b < 7) : owing c b s e = owing c (b + 1) s e + tallyAt (barCell (up c (b + 1))) () 1 := by
  unfold owing; rw [sum_peel _ h]; ac_rfl
/-- a send another, -/
theorem owing_send (c : Dev nD) {b s e : ℕ} (h : s < 7) : owing c b s e = owing c b (s + 1) e + tallyAt (recvCell (dn c (s + 1)) (s + 1)) () NB := by
  unfold owing; rw [sum_peel _ h]; ac_rfl
/-- and so does a closing signal. -/
theorem owing_end (c : Dev nD) {b s e : ℕ} (h : e < 7) : owing c b s e = owing c b s (e + 1) + tallyAt (endCell (up c (e + 1))) () 1 := by
  unfold owing; rw [sum_peel _ h]; ac_rfl
/-- After all of them nothing is owed. -/
theorem owing_none (c : Dev nD) : owing c 7 7 7 = 0 := by unfold owing; simp

/-- A sum of tallies is positive at a cell only if the cell is one of theirs. -/
theorem sum_pos {S : Finset ℕ} {cell : ℕ → GSem nD τ sig} {k : ℕ} {g : GSem nD τ sig} {u : Unit}
    (h : 0 < (∑ i ∈ S, tallyAt (cell i) () k : CellTallies nD τ sig Unit) g u) : ∃ i ∈ S, g = cell i := by
  induction S using Finset.induction_on with
  | empty => exact absurd h (Nat.lt_irrefl 0)
  | insert a S ha ih =>
    rw [Finset.sum_insert ha, Pi.add_apply, Finsupp.add_apply, tallyAt_apply] at h
    by_cases hg : g = cell a
    · exact ⟨a, Finset.mem_insert_self _ _, hg⟩
    · rw [if_neg (fun h' => hg h'.1), Nat.zero_add] at h
      obtain ⟨i, hi, e⟩ := ih h
      exact ⟨i, Finset.mem_insert_of_mem hi, e⟩

/-- What is owed is owed to a barrier cell, an arrival cell or a closing cell still ahead. -/
theorem owing_pos {c : Dev nD} {b s e : ℕ} {g : GSem nD τ sig} {u : Unit} (h : 0 < owing c b s e g u) :
    (∃ i ∈ Finset.Ico b 7, g = barCell (up c (i + 1))) ∨ (∃ i ∈ Finset.Ico s 7, g = recvCell (dn c (i + 1)) (i + 1))
      ∨ ∃ i ∈ Finset.Ico e 7, g = endCell (up c (i + 1)) := by
  unfold owing at h
  rw [Pi.add_apply, Finsupp.add_apply, Pi.add_apply, Finsupp.add_apply] at h
  rcases Nat.eq_zero_or_pos ((∑ i ∈ Finset.Ico b 7, tallyAt (barCell (up c (i + 1))) () 1 : CellTallies nD τ sig Unit) g u) with h1 | h1
  · rcases Nat.eq_zero_or_pos ((∑ i ∈ Finset.Ico s 7, tallyAt (recvCell (dn c (i + 1)) (i + 1)) () NB : CellTallies nD τ sig Unit) g u) with h2 | h2
    · rw [h1, h2] at h
      exact .inr (.inr (sum_pos (by simpa using h)))
    · exact .inr (.inl (sum_pos h2))
  · exact .inl (sum_pos h1)

def L (g : GSem nD τ sig) : Finset Unit := if g.1.2 = .tc then {()} else ∅
/-- Only a core's cells have a level, -/
theorem L_of_ne (g : GSem nD τ sig) (h : g.1.2 ≠ .tc) : L g = ∅ := if_neg h
/-- and these one each. -/
theorem L_tc (c : Dev nD) (sm : SemLoc sig) : L ((c : Thread nD τ), sm) = {()} := if_pos rfl
/-- The opening barrier is waited for before the rows arrive, and these before the closing rendezvous; whatever else is waited
    for is paid by the core that waits. -/
def rank : Use → ℕ
  | .opening => 1 | .arrival _ => 2 | .closing => 3 | _ => 0
def lv (g : GSem nD τ sig) (_ : Unit) : ℕ := rank (use g.2)

/-- A core waits only for what ranks below all it owes. -/
theorem mayWait (c : Dev nD) (sm : SemLoc sig) (b s e : ℕ)
    (h : rank (use sm) < if b < 7 then 1 else if s < 7 then 2 else if e < 7 then 3 else 4) :
    (levAts L lv : sProp 𝕄) ⊢ MayWait (c : Thread nD τ) sm () (owing c b s e) := by
  refine MayOwe.of_cut (L := L) (lev := lv) (rank (use sm)) (fun p hp => by rw [Finset.mem_singleton.mp hp, L_tc]; exact Finset.mem_singleton_self _)
    (fun g u hg => by rcases owing_pos hg with ⟨i, -, rfl⟩ | ⟨i, -, rfl⟩ | ⟨i, -, rfl⟩ <;> exact Finset.mem_singleton_self _)
    (fun p hp => by rw [Finset.mem_singleton.mp hp]; exact le_rfl) (fun g u hg => ?_)
  rcases owing_pos hg with ⟨i, hi, rfl⟩ | ⟨i, hi, rfl⟩ | ⟨i, hi, rfl⟩ <;> rw [Finset.mem_Ico] at hi
  · rw [if_pos (by omega)] at h; exact h
  · have hr : rank (use (.dma (recvS (i + 1)))) = 2 := by rw [use_recv hi.2]; rfl
    show rank (use sm) < rank (use (.dma (recvS (i + 1))))
    rw [hr]; split at h
    · omega
    · rw [if_pos (by omega)] at h; exact h
  · show rank (use sm) < 3
    (repeat' split at h) <;> omega

end Cert.KernelIdeal.Own

end
-- ==== Proof.Ops.lean ====
/- What each operation of the body does to the buffer parts, the semaphores and the debts it touches. -/
module

public import proofs.«01_k».proof.Proof.Sched

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ)

abbrev 𝒱₀ : Variants := Variants.none

/-- Run on device `c`'s core, `p` ends in `Q`. -/
abbrev WP (c : Dev nD) {α : Type} (p : ℙ α) (Q : α → sProp 𝕄) : sProp 𝕄 :=
  wp frame (wpE (defs₀ (F := F)) 𝒱₀ (c : Thread nD τ) none) Set.univ p Q

/-- What a program does, at the head of a longer one. -/
theorem then_ {c : Dev nD} {α β : Type} {p : ℙ α} {k : α → ℙ β} {P : sProp 𝕄} {Q : α → sProp 𝕄} {R : β → sProp 𝕄} (h : P ⊢ WP c p Q) :
    P ⊢ iprop((∀ a, Q a -∗ WP c (k a) R) -∗ WP c (p >>= k) R) := by
  unfold WP; rw [wp_bind]; exact h.trans (wp_wand _ _ _)

/-- What a program does, at the end of a longer one. -/
theorem last_ {c : Dev nD} {α : Type} {p : ℙ α} {P : sProp 𝕄} {Q R : α → sProp 𝕄} (h : P ⊢ WP c p Q) :
    P ⊢ iprop((∀ a, Q a -∗ R a) -∗ WP c p R) := h.trans (wp_wand _ _ _)

/-- The sum of what a core owes, with whatever it has waited for. -/
def ow (c : Dev nD) (b s e : ℕ) : sProp 𝕄 := iprop(∃ W, owes (c : Thread nD τ) (owing c b s e) W)

/-- A cell is under the schedule, at its first round or past it. -/
def knows (g : GSem nD τ sig) : sProp 𝕄 := iprop((∃ κ, cellInv ER (rd m) κ g) ∗ reached ER g 0)
instance knows_persistent (g : GSem nD τ sig) : BI.Persistent (knows m g) := by unfold knows; infer_instance

/-! ## Signals, sends and waits of the schedule -/

/-- The opening signal to the device `i + 1` places on hands it the slot its rows come into. -/
theorem signal_bar (c : Dev nD) {i : ℕ} (hi : i < 7) :
    iprop(knows m (barCell (up c (i + 1))) ∗ ow c i 0 0 ∗ dutyTok ER (barCell (up c (i + 1))) 0 i ∗ some' c (cSlot (i + 1)) ∗ reached ER (recvCell c (i + 1)) 0)
      ⊢ WP c (semSignalWord (devB c i) barS 1#32) (fun _ => ow c (i + 1) 0 0) := by
  rw [devB_eq c hi]
  unfold knows ow
  iintro ⟨⟨⟨%κ, #HI⟩, #HR⟩, ⟨%W, HO⟩, Ht, Hs, #Hr⟩
  iapply (Rounds.wp_signal 𝒱₀ ER (rd m) (c : Thread nD τ) none (dst := (up c (i + 1) : Thread nD τ)) (κ := κ) (r := 0) (d := i)
    (by rw [duties_eq, use_bar]; exact Finset.mem_range.mpr hi) (by rfl) () (owing c (i + 1) 0 0) (owing_bar c hi)) $$ [HO Ht Hs]
  · isplitr; · iexact HI
    isplitl [HO]; · iexact HO
    isplitl [Ht]; · iexact Ht
    isplitl [Hs]; swap; · iexact HR
    have h : iprop(some' c (cSlot (i + 1)) ∗ reached ER (recvCell c (i + 1)) 0) ⊢ ((rd m).payload (barCell (up c (i + 1))) 0 i : sProp 𝕄) := by
      show _ ⊢ handOver (up c (i + 1)) i
      unfold handOver; rw [dn_up c (by omega)]
    iapply h
    isplitl [Hs]; · iexact Hs
    iexact Hr
  iintro HO
  rw [wp_ret]; imodintro
  iexists W; iexact HO

/-- The closing signal hands nothing. -/
theorem signal_end (c : Dev nD) {i : ℕ} (hi : i < 7) :
    iprop(knows m (endCell (up c (i + 1))) ∗ ow c 7 7 i ∗ dutyTok ER (endCell (up c (i + 1))) 0 i)
      ⊢ WP c (semSignalWord (devE c i) endS 1#32) (fun _ => ow c 7 7 (i + 1)) := by
  rw [devE_eq c hi]
  unfold knows ow
  iintro ⟨⟨⟨%κ, #HI⟩, #HR⟩, ⟨%W, HO⟩, Ht⟩
  iapply (Rounds.wp_signal 𝒱₀ ER (rd m) (c : Thread nD τ) none (dst := (up c (i + 1) : Thread nD τ)) (κ := κ) (r := 0) (d := i)
    (by rw [duties_eq, use_end]; exact Finset.mem_range.mpr hi) (by rfl) () (owing c 7 7 (i + 1)) (owing_end c hi)) $$ [HO Ht]
  · isplitr; · iexact HI
    isplitl [HO]; · iexact HO
    isplitl [Ht]; · iexact Ht
    isplitr; swap; · iexact HR
    have h : iprop(emp) ⊢ ((rd m).payload (endCell (up c (i + 1))) 0 i : sProp 𝕄) := by
      show _ ⊢ iprop(emp)
      exact .rfl
    iapply h
    iempintro
  iintro HO
  rw [wp_ret]; imodintro
  iexists W; iexact HO

/-- A send lends the rows until they have left, and fills the receiver's slot. -/
theorem send (c : Dev nD) {i : ℕ} (hi : i < 7) :
    iprop(knows m (sendCell c (i + 1)) ∗ knows m (recvCell (dn c (i + 1)) (i + 1))
        ∗ owns (c : Thread nD τ) (bRow (dn c (i + 1))) fullShare (rows m c (dn c (i + 1))) ∗ some' (dn c (i + 1)) (cSlot (i + 1))
        ∗ ow c 7 i 0 ∗ dutyTok ER (sendCell c (i + 1)) 0 0 ∗ dutyTok ER (recvCell (dn c (i + 1)) (i + 1)) 0 0)
      ⊢ WP c (sendR c i) (fun _ => iprop(ow c 7 (i + 1) 0 ∗ cred (tallyAt (sendCell c (i + 1)) () NB))) := by
  have hd := devS_eq c hi
  have ho := offS_eq c hi
  have hl : lhs m (dn c (i + 1)) (i + 1) = rows m c (dn c (i + 1)) := by unfold lhs; rw [up_dn c (by omega)]
  unfold sendR
  generalize_proofs h1 h2 h3 h4 h5
  revert h1 h2 h3 h4 h5
  rw [hd]
  generalize offS c i = off at ho
  subst ho
  intro h1 h2 h3 h4 h5
  unfold knows ow
  iintro ⟨⟨⟨%κ₁, #HI⟩, #HR⟩, ⟨⟨%κ₂, #HI'⟩, #HR'⟩, Hb, ⟨%Y, Hd⟩, ⟨%W, HO⟩, Ht, Ht'⟩
  ihave Hb' := (show owns (c : Thread nD τ) (bRow (dn c (i + 1))) fullShare (rows m c (dn c (i + 1)))
    ⊢ (iprop(∃ f, ⌜(bRow (dn c (i + 1))).view.read (Elt F) f = rows m c (dn c (i + 1))⌝ ∗ ((bRow (dn c (i + 1))).view.loc (c : Thread nD τ) ↦[(bRow (dn c (i + 1))).view.set]{fullShare} f)) : sProp 𝕄) from .rfl) $$ Hb
  icases Hb' with ⟨%fs, %hfs, Hb⟩
  ihave Hd' := (show owns (dn c (i + 1) : Thread nD τ) (cSlot (i + 1)) fullShare Y
    ⊢ (iprop(∃ f, ⌜(cSlot (i + 1)).view.read (Elt F) f = Y⌝ ∗ ((cSlot (i + 1)).view.loc (dn c (i + 1) : Thread nD τ) ↦[(cSlot (i + 1)).view.set]{fullShare} f)) : sProp 𝕄) from .rfl) $$ Hd
  icases Hd' with ⟨%fd, -, Hd⟩
  iapply (Rounds.wp_send_pointsTo 𝒱₀ ER (rd m) (c : Thread nD τ) none (κ₁ := κ₁) (κ₂ := κ₂) (c' := (dn c (i + 1) : Thread nD τ))
    (src := bRow (dn c (i + 1))) (dst := cSlot (i + 1)) (sS := .dma (sendS (i + 1))) (sem := .dma (recvS (i + 1))) (q := fullShare) (fs := fs) (fd := fd)
    (r₁ := 0) (r₂ := 0) (d₁ := 0) (d₂ := 0)
    (by rw [duties_eq, use_send hi]; exact Finset.mem_singleton_self _) (by rw [duties_eq, use_recv hi]; exact Finset.mem_singleton_self _)
    () () NB rfl (by show amountOf (use _) = _; rw [use_send hi]; rfl) (by show amountOf (use _) = _; rw [use_recv hi]; rfl)
    (owing c 7 (i + 1) 0) (owing_send c hi) (W := W)
    (by
      show _ ⊢ brings m c 0 (use (.dma (sendS (i + 1))))
      rw [use_send hi]
      show _ ⊢ owns (c : Thread nD τ) (bRow (dn c (i + 1))) fullShare (rows m c (dn c (i + 1)))
      rw [← hfs]; exact owns_intro _ _ _ _)
    (by
      show _ ⊢ brings m (dn c (i + 1)) 0 (use (.dma (recvS (i + 1))))
      rw [use_recv hi]
      show _ ⊢ owns (dn c (i + 1) : Thread nD τ) (cSlot (i + 1)) fullShare (lhs m (dn c (i + 1)) (i + 1))
      rw [hl, ← hfs]
      refine (owns_intro _ _ _ _).trans (Entails.of_eq ?_)
      rw [View.read_write_univ])) $$ [Hb Hd HO Ht Ht']
  · isplitr; · iexact HI
    isplitr; · iexact HI'
    isplitl [Hb]; · iexact Hb
    isplitl [Hd]; · iexact Hd
    isplitl [HO]; · iexact HO
    isplitl [Ht]; · iexact Ht
    isplitr; · iexact HR
    isplitl [Ht']; · iexact Ht'
    iexact HR'
  iintro ⟨Hc, HO⟩
  rw [wp_ret]; imodintro
  isplitl [HO]; · iexists W; iexact HO
  iexact Hc

/-- A wait for all of a cell's round takes what the round brings; the cell has no other round, so its counter is the core's
    again, at zero. -/
theorem wait_cell (c : Dev nD) {sm : SemLoc sig} {k b s e : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k K)
    (hk : k = (rd (F := F) m).expect ((c : Thread nD τ), sm) 0) (hr : rank (use sm) < if b < 7 then 1 else if s < 7 then 2 else if e < 7 then 3 else 4) :
    iprop(knows m ((c : Thread nD τ), sm) ∗ levAts L lv ∗ cred (tallyAt ((c : Thread nD τ), sm) () k) ∗ ow c b s e ∗ atPos ER ((c : Thread nD τ), sm) 0 ∅ 0)
      ⊢ WP c (Prog.lift w) (fun _ => iprop(ow c b s e ∗ semVal ((c : Thread nD τ), sm) 0 ∗ bigSep (dutiesOf (use sm)) (fun i => brings m c i (use sm)))) := by
  unfold knows ow Prog.lift
  iintro ⟨⟨⟨%κ, #HI⟩, #HR⟩, #Hlev, Hc, ⟨%W, HO⟩, Hat⟩
  iapply (Rounds.wp_wait_rest_token 𝒱₀ ER (rd m) (c : Thread nD τ) none (κ := κ) (sm := sm) (k' := k) hw (Set.mem_univ _) ()
    (O := owing c b s e) (W := W) (R := 0) (m := 0) (T := ∅) (by rw [Nat.zero_add]; exact hk)) $$ [Hc HO Hat]
  · isplitr; · iexact HI
    isplitl [Hc]; · iexact Hc
    isplitl [HO]; · iexact HO
    isplitr; · iapply (mayWait (F := F) c sm b s e hr); iexact Hlev
    iexact Hat
  iintro ⟨HO, Hat, -, Hpay⟩
  ihave Hp := (Entails.of_eq (rest_eq m c sm)) $$ Hpay
  rw [wp_ret]
  imod (Rounds.cell_close ER (rd m) (Set.mem_univ κ) (fun h => h) (R := 0 + 1) (duties_later m ((c : Thread nD τ), sm))) $$ [Hat] with Hz
  · isplitr; · iexact HI
    iexact Hat
  imodintro
  isplitl [HO]; · iexists _; iexact HO
  isplitl [Hz]; · iexact Hz
  iexact Hp

/-- The opening wait brings the seven slots the core sends into. -/
theorem wait_bar (c : Dev nD) :
    iprop(knows m (barCell c) ∗ levAts L lv ∗ cred (tallyAt (barCell c) () 7) ∗ ow c 7 0 0 ∗ atPos ER (barCell c) 0 ∅ 0)
      ⊢ WP c (semWaitWord barS 7#32) (fun _ => iprop(ow c 7 0 0 ∗ semVal (barCell c) 0 ∗ bigSep (Finset.range 7) (fun i => handOver c i))) :=
  wait_cell m c (w := .semWait barS 7) (fun K => wpE_semWait_eq 𝒱₀ (c : Thread nD τ) none Set.univ K) (expect_units m c (.inl use_bar)).symm (by decide)

/-- The closing wait brings nothing. -/
theorem wait_end (c : Dev nD) :
    iprop(knows m (endCell c) ∗ levAts L lv ∗ cred (tallyAt (endCell c) () 7) ∗ ow c 7 7 7 ∗ atPos ER (endCell c) 0 ∅ 0)
      ⊢ WP c (semWaitWord endS 7#32) (fun _ => iprop(ow c 7 7 7 ∗ semVal (endCell c) 0)) := by
  refine (wait_cell m c (w := .semWait endS 7) (fun K => wpE_semWait_eq 𝒱₀ (c : Thread nD τ) none Set.univ K) (expect_units m c (.inr use_end)).symm
    (by simp [use_end, rank])).trans (wp_mono _ _ _ fun _ => ?_)
  iintro ⟨HO, Hz, -⟩
  isplitl [HO] <;> iassumption

/-- Waiting for slot `r` brings the rows sent into it. -/
theorem wait_recv (c : Dev nD) {i : ℕ} (hi : i < 7) :
    iprop(knows m (recvCell c (i + 1)) ∗ levAts L lv ∗ cred (tallyAt (recvCell c (i + 1)) () NB) ∗ ow c 7 7 0 ∗ atPos ER (recvCell c (i + 1)) 0 ∅ 0)
      ⊢ WP c (waitR (i + 1)) (fun _ => iprop(ow c 7 7 0 ∗ semVal (recvCell c (i + 1)) 0 ∗ owns (c : Thread nD τ) (cSlot (i + 1)) fullShare (lhs m c (i + 1)))) := by
  have hu := use_recv hi
  refine (wait_cell m c (w := .waitDma2 (recvS (i + 1)) (cSlot (i + 1)) (cSlot (i + 1)) (cSlot_words (i + 1)) (cSlot_words (i + 1)))
    (fun K => wpE_waitDma2_eq 𝒱₀ (c : Thread nD τ) none Set.univ K)
    (by rw [expect_block m c (by rw [hu]; rfl) (by rw [hu]; rfl)]) (by simp [hu, rank])).trans ?_
  rw [hu]
  exact wp_mono _ _ _ fun _ => sep_mono_right (sep_mono_right (Entails.of_eq bigSep_singleton))

/-- Waiting for a departure brings the rows back. -/
theorem wait_send (c : Dev nD) {i : ℕ} (hi : i < 7) :
    iprop(knows m (sendCell c (i + 1)) ∗ levAts L lv ∗ cred (tallyAt (sendCell c (i + 1)) () NB) ∗ ow c 7 7 0 ∗ atPos ER (sendCell c (i + 1)) 0 ∅ 0)
      ⊢ WP c (waitS c i) (fun _ => iprop(ow c 7 7 0 ∗ semVal (sendCell c (i + 1)) 0
          ∗ owns (c : Thread nD τ) (bRow (dn c (i + 1))) fullShare (rows m c (dn c (i + 1))))) := by
  have hu := use_send hi
  refine (wait_cell m c (w := .waitDma2 (sendS (i + 1)) (cSlot (i + 1)) (bRows (offS c i) (offS_inb c i)) (cSlot_words (i + 1))
      ((Memref.isWhole_whole cc0_scratch0).wordExact_slice rfl _ (offS_words c i)))
    (fun K => wpE_waitDma2_eq 𝒱₀ (c : Thread nD τ) none Set.univ K)
    (by rw [expect_block m c (by rw [hu]; rfl) (by rw [hu]; rfl)]) (by simp [hu, rank])).trans ?_
  rw [hu]
  exact wp_mono _ _ _ fun _ => sep_mono_right (sep_mono_right (Entails.of_eq bigSep_singleton))

/-! ## Copies on the core's own memory -/

/-- A copy between two buffer parts is under way: at its end the target holds `X` and the source is back. -/
abbrev flying (c : Dev nD) (sem : DmaSem sig) (N : ℕ) (D : sProp 𝕄) : sProp 𝕄 := Transfers.Flight EC (c : Thread nD τ) (.dma sem) () N D

/-- The start of a copy within the device: it takes the source and the target and is then under way. -/
theorem copy_start (c : Dev nD) {sp sp' : Space} {s : Shape} {e : EltTy} {src : Memref sig .tc sp s e} {dst : Memref sig .tc sp' s e} {sem : DmaSem sig}
    {h₁ : src.view.WordExact} {h₂ : dst.view.WordExact} {h₃ : DmaTarget.Typed (nD := nD) sp (.dma sem) (.here (p := Proc.tc) dst)} (hN : 0 < dst.view.dmaCredit)
    {q : PosShare TreeShare} {X : s.Idx → Elt F e} :
    iprop(owns (c : Thread nD τ) src q X ∗ some' c dst ∗ semVal ((c : Thread nD τ), .dma sem) 0)
      ⊢ WP c (Prog.lift (.enqueueDma src (.here dst) (.dma sem) h₁ h₂ h₃))
          (fun _ => flying c sem dst.view.dmaCredit iprop(owns (c : Thread nD τ) dst fullShare X ∗ owns (c : Thread nD τ) src q X)) := by
  iintro ⟨Hs, ⟨%Y, Hd⟩, Hz⟩
  ihave Hs' := (show owns (c : Thread nD τ) src q X
    ⊢ (iprop(∃ f, ⌜src.view.read (Elt F) f = X⌝ ∗ (src.view.loc (c : Thread nD τ) ↦[src.view.set]{q} f)) : sProp 𝕄) from .rfl) $$ Hs
  icases Hs' with ⟨%fs, %hfs, Hs⟩
  ihave Hd' := (show owns (c : Thread nD τ) dst fullShare Y
    ⊢ (iprop(∃ f, ⌜dst.view.read (Elt F) f = Y⌝ ∗ (dst.view.loc (c : Thread nD τ) ↦[dst.view.set]{fullShare} f)) : sProp 𝕄) from .rfl) $$ Hd
  icases Hd' with ⟨%fd, -, Hd⟩
  iapply (Transfers.wp_dmaLocal EC 𝒱₀ (c : Thread nD τ) none (via := .same) (fs := fs) (fd := fd) (Sd := dst.view.set) () dst.view.dmaCredit rfl hN subset_rfl) $$ [Hs Hd Hz]
  · isplitl [Hs]; · iexact Hs
    isplitl [Hd] <;> iassumption
  iintro Hf
  rw [wp_ret]; imodintro
  have h : iprop((dst.view.loc (c : Thread nD τ) ↦[dst.view.set]{fullShare} (dst.view.write (Elt F) fd (ReadAs.same.apply (src.view.read (Elt F) fs)) Finset.univ))
        ∗ (src.view.loc (c : Thread nD τ) ↦[src.view.set]{q} fs))
      ⊢ (iprop(owns (c : Thread nD τ) dst fullShare X ∗ owns (c : Thread nD τ) src q X) : sProp 𝕄) := by
    rw [← hfs]
    refine BI.sep_mono ((owns_intro _ _ _ _).trans (Entails.of_eq ?_)) (owns_intro _ _ _ _)
    rw [View.read_write_univ]
  iapply (Transfers.Flight_mono EC (c : Thread nD τ) h)
  iexact Hf

/-- The wait for it: it brings what the copy brings, the counter at zero again. -/
theorem copy_wait (c : Dev nD) {sp sp' : Space} {s s' : Shape} {e e' : EltTy} {srcw : Memref sig .tc sp' s' e'} {dstw : Memref sig .tc sp s e} {sem : DmaSem sig}
    {h₁ : srcw.view.WordExact} {h₂ : dstw.view.WordExact} {N : ℕ} (hN : dstw.view.dmaCredit = N) (hr : rank (use (.dma sem)) = 0) {D : sProp 𝕄} {b s₁ e₁ : ℕ} :
    iprop(flying c sem N D ∗ levAts L lv ∗ ow c b s₁ e₁)
      ⊢ WP c (Prog.lift (.waitDma2 sem srcw dstw h₁ h₂)) (fun _ => iprop(D ∗ semVal ((c : Thread nD τ), .dma sem) 0 ∗ ow c b s₁ e₁)) := by
  unfold ow
  iintro ⟨Hf, #Hlev, ⟨%W, HO⟩⟩
  iapply (Transfers.wp_waitLocalO EC 𝒱₀ (c : Thread nD τ) none () hN) $$ [Hf HO]
  · isplitl [Hf]; · iexact Hf
    isplitl [HO]; · iexact HO
    iapply (mayWait (F := F) c (.dma sem) b s₁ e₁ (by rw [hr]; (repeat' split) <;> decide)); iexact Hlev
  iintro ⟨HD, Hz, HO⟩
  rw [wp_ret]; imodintro
  isplitl [HD]; · iexact HD
  isplitl [Hz]; · iexact Hz
  iexists _; iexact HO

/-! ## Loads and stores -/

/-- A load through a rectangle of a memref reads what the rectangle's slice holds. -/
theorem load_part (c : Dev nD) {cs : CoreSpace} {s : Shape} {e : EltTy} {v : Memref sig .tc cs s e} {r : Rect s} {hr : ∀ a, r.stride a = 1} {hl : v.view.LoadsAt r.toLoadRect}
    {q : PosShare TreeShare} {X : r.shape.Idx → Elt F e} :
    owns (c : Thread nD τ) (v.slice r hr) q X
      ⊢ WP c (Prog.lift (.load v r.toLoadRect hl)) (fun x => iprop(⌜x = X⌝ ∗ owns (c : Thread nD τ) (v.slice r hr) q X)) := by
  iintro H
  ihave H' := (show owns (c : Thread nD τ) (v.slice r hr) q X
    ⊢ (iprop(∃ f, ⌜(v.access r).read (Elt F) f = X⌝ ∗ ((v.access r).loc (c : Thread nD τ) ↦[(v.access r).set]{q} f)) : sProp 𝕄) from .rfl) $$ H
  icases H' with ⟨%f, %hf, H⟩
  iapply (wp_load_rect 𝒱₀ (c : Thread nD τ) none Set.univ (m := v) (r := r) subset_rfl) $$ H
  iintro H
  rw [wp_ret]; imodintro
  isplitr; · ipureintro; exact hf
  rw [← hf]
  iapply (owns_intro (c : Thread nD τ) (v.slice r hr) q f); iexact H

/-- A store through a rectangle of a memref makes its slice hold the value. -/
theorem store_part (c : Dev nD) {cs : CoreSpace} {s : Shape} {e : EltTy} {v : Memref sig .tc cs s e} {r : Rect s} {hr : ∀ a, r.stride a = 1} {w : r.shape.Idx → Elt F e}
    {hx : (v.access r).Stores Finset.univ} {hm : (Finset.univ : Finset r.shape.Idx) = Finset.univ ∨ ∀ a, r.stride a = 1} :
    (some' c (v.slice r hr) : sProp 𝕄)
      ⊢ WP c (Prog.lift (.store v r w Finset.univ hx hm)) (fun _ => owns (c : Thread nD τ) (v.slice r hr) fullShare w) := by
  iintro ⟨%Y, H⟩
  ihave H' := (show owns (c : Thread nD τ) (v.slice r hr) fullShare Y
    ⊢ (iprop(∃ f, ⌜(v.access r).read (Elt F) f = Y⌝ ∗ ((v.access r).loc (c : Thread nD τ) ↦[(v.access r).set]{fullShare} f)) : sProp 𝕄) from .rfl) $$ H
  icases H' with ⟨%f, -, H⟩
  iapply (wp_store 𝒱₀ (c : Thread nD τ) none Set.univ (m := v) (r := r) (w := w) (Mk := Finset.univ) (hx := hx) (hm := hm) (S := (v.access r).set) (f := f) subset_rfl) $$ H
  iintro H
  rw [wp_ret]; imodintro
  have h : ((v.access r).loc (c : Thread nD τ) ↦[(v.access r).set]{fullShare} ((v.access r).write (Elt F) f w Finset.univ) : sProp 𝕄)
      ⊢ owns (c : Thread nD τ) (v.slice r hr) fullShare w := by
    exact (owns_intro (c : Thread nD τ) (v.slice r hr) fullShare _).trans
      (Entails.of_eq (congrArg (owns (c : Thread nD τ) (v.slice r hr) fullShare) (View.read_write_univ (v := v.access r) f w)))
  iapply h; iexact H

/-- A slot seen with its leading axis of extent one dropped is the slot, its contents reindexed. -/
theorem owns_squeeze (c : Dev nD) {sp : Space} {s s' : Shape} {e : EltTy} (v : Memref sig .tc sp s e) (h : s.Squeezes s') (q : PosShare TreeShare) (X : s.Idx → Elt F e)
    (h' : s.ShapeCasts s') :
    owns (c : Thread nD τ) v q X ⊢ (owns (c : Thread nD τ) (v.squeeze s' h) q (shapeCast s' X h') : sProp 𝕄) := by
  unfold owns
  iintro ⟨%f, %hf, H⟩
  iexists f
  isplitr; · ipureintro; rw [← hf]; rfl
  rw [show (v.squeeze s' h).view.set = v.view.set from View.set_reshape _ _]; iexact H

/-- Reindexing there and back is doing nothing. -/
theorem shapeCast_back {s t : Shape} {α : Type} (x : s.Idx → α) (h : s.ShapeCasts t) (h' : t.ShapeCasts s) : shapeCast s (shapeCast t x h) h' = x := by
  funext j
  show x (Shape.reshapeEquiv _ (Shape.reshapeEquiv _ j)) = x j
  rw [Shape.reshapeEquiv_reshapeEquiv, Shape.reshapeEquiv_self]

/-- A view without its unit axis is the view with it, at the same contents. -/
theorem owns_unsqueeze (c : Dev nD) {sp : Space} {s s' : Shape} {e : EltTy} (v : Memref sig .tc sp s e) (h : s.Squeezes s') (q : PosShare TreeShare) (X : s'.Idx → Elt F e)
    (h' : s'.ShapeCasts s) :
    (owns (c : Thread nD τ) (v.squeeze s' h) q X : sProp 𝕄) ⊢ owns (c : Thread nD τ) v q (shapeCast s X h') := by
  unfold owns
  iintro ⟨%f, %hf, H⟩
  iexists f
  isplitr
  · ipureintro; rw [← hf]
    exact (shapeCast_back (v.view.read (Elt F) f) h.numel_eq h').symm
  rw [show (v.squeeze s' h).view.set = v.view.set from View.set_reshape _ _]; iexact H

end Cert.KernelIdeal.Own

end
-- ==== Proof.Steps.lean ====
/- The steps and chunks of the product, run on the buffer parts they touch: the ring of weight tiles, the rows that arrive
   during the first chunk, the two output slots. -/
module

public import proofs.«01_k».proof.Proof.Ops

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ)

/-- A program that only returns. -/
theorem done_ {c : Dev nD} {α : Type} {a : α} {Q : α → sProp 𝕄} : Q a ⊢ WP c (pure a : ℙ α) Q := by
  unfold WP
  show _ ⊢ wp _ _ _ (Prog.ret a) Q
  rw [wp_ret]; exact fupd_intro (PROP := sProp 𝕄)

/-- A separating conjunction over a range, its last or one of its parts apart. -/
theorem range_last (Φ : ℕ → sProp 𝕄) (n : ℕ) : bigSep (Finset.range (n + 1)) Φ = iprop(Φ n ∗ bigSep (Finset.range n) Φ) := by
  rw [Finset.range_add_one]; exact BI.bigSep_insert Finset.notMem_range_self
/-- One part of a range apart from the others, -/
theorem range_take (Φ : ℕ → sProp 𝕄) {n i : ℕ} (hi : i < n) :
    bigSep (Finset.range n) Φ = iprop(Φ i ∗ bigSep ((Finset.range n).erase i) Φ) := BI.bigSep_erase (Finset.mem_range.mpr hi)
/-- or alone. -/
theorem range_one (Φ : ℕ → sProp 𝕄) {n i : ℕ} (hi : i < n) : bigSep (Finset.range n) Φ ⊢ Φ i := by
  rw [range_take Φ hi]; iintro ⟨H, -⟩; iexact H

/-! ## Loops -/

/-- A loop each of whose bodies turns its own part `Φ i` into `Ψ i`, carrying `R`. -/
theorem wp_upTo {c : Dev nD} {body : ℕ → ℙ PUnit} (R Φ Ψ : ℕ → sProp 𝕄) (n : ℕ)
    (h : ∀ i, i < n → iprop(R i ∗ Φ i) ⊢ WP c (body i) (fun _ => iprop(R (i + 1) ∗ Ψ i))) :
    iprop(R 0 ∗ bigSep (Finset.range n) Φ) ⊢ WP c (upTo body n) (fun _ => iprop(R n ∗ bigSep (Finset.range n) Ψ)) := by
  induction n with
  | zero =>
    simp only [Finset.range_zero, bigSep_empty]
    unfold upTo
    exact done_ (Q := fun _ => iprop(R 0 ∗ emp))
  | succ n ih =>
    rw [range_last, range_last]
    unfold upTo
    iintro ⟨HR, Hn, HΦ⟩
    iapply (then_ (ih fun i hi => h i (by omega))) $$ [HR HΦ]
    · isplitl [HR] <;> iassumption
    iintro %_ ⟨HR, HΨ⟩
    iapply (last_ (h n (by omega))) $$ [HR Hn]
    · isplitl [HR] <;> iassumption
    iintro %_ ⟨HR, Hn⟩
    isplitl [HR]; · iexact HR
    isplitl [Hn] <;> iassumption

/-- A loop with a carried value. -/
theorem wp_foldTo {c : Dev nD} {α : Type} {body : ℕ → α → ℙ α} {a : α} (I : ℕ → α → sProp 𝕄) (n : ℕ)
    (h : ∀ s, s < n → ∀ a, I s a ⊢ WP c (body s a) (I (s + 1))) : I 0 a ⊢ WP c (foldTo body a n) (I n) := by
  induction n with
  | zero => unfold foldTo; exact done_
  | succ n ih =>
    unfold foldTo
    iintro H
    iapply (then_ (ih fun s hs => h s (by omega))) $$ H
    iintro %b H
    iapply (last_ (h n (by omega) b)) $$ H
    iintro %b H
    iexact H

/-- A program that does nothing. -/
theorem skip (c : Dev nD) (P : sProp 𝕄) : P ⊢ WP c (pure ⟨⟩ : ℙ PUnit) (fun _ => P) := done_ (Q := fun _ => P)

/-! ## What every core knows -/

/-- Every cell is under the schedule; the levels are as set. -/
def records : sProp 𝕄 :=
  iprop(levAts L lv ∗ bigSep Finset.univ fun d : Dev nD => iprop(knows m (barCell d) ∗ knows m (endCell d)
    ∗ bigSep (Finset.range 7) fun i => iprop(knows m (sendCell d (i + 1)) ∗ knows m (recvCell d (i + 1)))))
instance records_persistent : BI.Persistent (records m) := by unfold records; infer_instance

/-- The records hold the levels, -/
theorem rec_lev : records m ⊢ (levAts L lv : sProp 𝕄) := by unfold records; iintro ⟨H, -⟩; iexact H
/-- and that each device's cells are under the schedule: -/
theorem rec_dev (d : Dev nD) : records m ⊢ iprop(knows m (barCell d) ∗ knows m (endCell d)
    ∗ bigSep (Finset.range 7) fun i => iprop(knows m (sendCell d (i + 1)) ∗ knows m (recvCell d (i + 1)))) := by
  unfold records
  exact sep_elim_right.trans (bigSep_elim (Finset.mem_univ d))
/-- its barrier cell, -/
theorem rec_bar (d : Dev nD) : records m ⊢ knows m (barCell d) := by
  refine (rec_dev m d).trans ?_; iintro ⟨H, -⟩; iexact H
/-- its closing cell, -/
theorem rec_end (d : Dev nD) : records m ⊢ knows m (endCell d) := by
  refine (rec_dev m d).trans ?_; iintro ⟨-, H, -⟩; iexact H
/-- its departure cells -/
theorem rec_send (d : Dev nD) {i : ℕ} (hi : i < 7) : records m ⊢ knows m (sendCell d (i + 1)) := by
  refine (rec_dev m d).trans ?_; iintro ⟨-, -, H⟩
  ihave H' := (range_one (fun i => iprop(knows m (sendCell d (i + 1)) ∗ knows m (recvCell d (i + 1)))) hi) $$ H
  icases H' with ⟨H, -⟩; iexact H
/-- and its arrival cells. -/
theorem rec_recv (d : Dev nD) {i : ℕ} (hi : i < 7) : records m ⊢ knows m (recvCell d (i + 1)) := by
  refine (rec_dev m d).trans ?_; iintro ⟨-, -, H⟩
  ihave H' := (range_one (fun i => iprop(knows m (sendCell d (i + 1)) ∗ knows m (recvCell d (i + 1)))) hi) $$ H
  icases H' with ⟨-, H⟩; iexact H

/-! ## The ring of weight tiles -/

abbrev NW : ℕ := (wSlot 0).view.dmaCredit
/-- Every weight slot has the credit of one tile, -/
theorem NW_eq (k : ℕ) : (wSlot k).view.dmaCredit = NW := rfl
/-- which is positive. -/
theorem NW_pos (k : ℕ) : 0 < (wSlot k).view.dmaCredit := View.dmaCredit_pos _ (by decide)

/-- The share of the weights lent to slot `k`'s copies; -/
abbrev tok (k : ℕ) : PosShare TreeShare := Transfers.shareTokN fullShare k
abbrev wAll (c : Dev nD) (q : PosShare TreeShare) : sProp 𝕄 := ((c : Thread nD τ).loc main_arg1) ↦{q} wts m c
/-- a slot free for the next copy; -/
def wFree (c : Dev nD) (k : ℕ) : sProp 𝕄 := iprop(some' c (wSlot k) ∗ semVal ((c : Thread nD τ), .dma (wS k)) 0 ∗ wAll m c (tok k))
/-- a slot holding tile `t`; -/
def wGot (c : Dev nD) (t : ℕ) : sProp 𝕄 :=
  iprop(owns (c : Thread nD τ) (wSlot (t % 3)) fullShare (tile m c t) ∗ semVal ((c : Thread nD τ), .dma (wS (t % 3))) 0 ∗ wAll m c (tok (t % 3)))
/-- the part of the weights that is no part of tile `t`; -/
abbrev wRest (c : Dev nD) (t : ℕ) (q : PosShare TreeShare) : sProp 𝕄 :=
  ((c : Thread nD τ).loc main_arg1) ↦[Finset.univ \ (wTile (offW c t) (offW_inb c t)).view.set]{q} wts m c
/-- tile `t` on its way into its slot. -/
def wFly (c : Dev nD) (t : ℕ) : sProp 𝕄 :=
  iprop(flying c (wS (t % 3)) NW iprop(owns (c : Thread nD τ) (wSlot (t % 3)) fullShare (tile m c t)
      ∗ owns (c : Thread nD τ) (wTile (offW c t) (offW_inb c t)) (tok (t % 3)) (tile m c t))
    ∗ wRest m c t (tok (t % 3)))

/-- The weights are a tile and the rest. -/
theorem w_split (c : Dev nD) (t : ℕ) (q : PosShare TreeShare) :
    wAll m c q ⊣⊢ iprop(owns (c : Thread nD τ) (wTile (offW c t) (offW_inb c t)) q (tile m c t) ∗ wRest m c t q) := by
  have h := owns_slice_read (Ix := Unit) (Name := ℕ) (U := UU) (Lvl := ℕ) (c : Thread nD τ) wV q (Rect.unit (s := S4096x8192) (offW c t) S512x2048.size (offW_inb c t)) (fun _ => rfl) (wts m c)
  rw [show owns (c : Thread nD τ) (wTile (offW c t) (offW_inb c t)) q (tile m c t) = _ from h]
  exact pointsTo_split_subset (Finset.subset_univ _)

/-- The start of the copy of tile `t` into its free slot. -/
theorem start_w (c : Dev nD) (t : ℕ) : wFree m c (t % 3) ⊢ WP c (startW c t) (fun _ => wFly m c t) := by
  unfold wFree startW wFly
  iintro ⟨Hs, Hz, Hw⟩
  ihave Hw' := (w_split m c t (tok (t % 3))).1 $$ Hw
  icases Hw' with ⟨Ht, Hr⟩
  have hs := copy_start (F := F) c (src := wTile (offW c t) (offW_inb c t)) (dst := wSlot (t % 3)) (sem := wS (t % 3)) (h₁ := View.wordExact_bits rfl)
    (h₂ := (View.wordExact_bits rfl).reshape _ _) (h₃ := ⟨Or.inl rfl, trivial⟩) (NW_pos (t % 3)) (q := tok (t % 3)) (X := tile m c t)
  rw [NW_eq] at hs
  iapply (last_ hs) $$ [Hs Hz Ht]
  · isplitl [Ht]; · iexact Ht
    isplitl [Hs] <;> iassumption
  iintro %_ Hf
  isplitl [Hf] <;> iassumption

/-- A weight semaphore ranks lowest. -/
theorem rank_w (t : ℕ) : rank (use (.dma (wS (t % 3)))) = 0 :=
  (by decide +kernel : ∀ k : Fin 3, rank (use (.dma (wS k.val))) = 0) ⟨t % 3, Nat.mod_lt _ (by decide)⟩

/-- The wait for tile `t`: its slot then holds it. -/
theorem wait_w (c : Dev nD) (t : ℕ) {b s e : ℕ} :
    iprop(wFly m c t ∗ levAts L lv ∗ ow c b s e) ⊢ WP c (waitW c t) (fun _ => iprop(wGot m c t ∗ ow c b s e)) := by
  unfold wFly waitW wGot
  iintro ⟨⟨Hf, Hr⟩, #Hl, HO⟩
  iapply (last_ (copy_wait c (srcw := wTile (offW c t) (offW_inb c t)) (dstw := wSlot (t % 3)) (h₁ := View.wordExact_bits rfl)
    (h₂ := (View.wordExact_bits rfl).reshape _ _) (NW_eq (t % 3)) (rank_w t))) $$ [Hf HO]
  · isplitl [Hf]; · iexact Hf
    isplitr; · iexact Hl
    iexact HO
  iintro %_ ⟨⟨Hs, Ht⟩, Hz, HO⟩
  isplitr [HO]; swap; · iexact HO
  isplitl [Hs]; · iexact Hs
  isplitl [Hz]; · iexact Hz
  iapply (w_split m c t (tok (t % 3))).2
  isplitl [Ht] <;> iassumption

/-- Tile `t`'s slot: on its way while there is such a tile. -/
def wAt (c : Dev nD) (t : ℕ) : sProp 𝕄 := if t < 32 then wFly m c t else wFree m c (t % 3)
/-- The three slots before step `t`: tiles `t` and `t + 1` on their way, the third slot free. -/
def ring (c : Dev nD) (t : ℕ) : sProp 𝕄 := iprop(wAt m c t ∗ wAt m c (t + 1) ∗ wFree m c ((t + 2) % 3))

/-- Tile `t` is started if there is such a tile. -/
theorem start_next (c : Dev nD) (t : ℕ) :
    wFree m c (t % 3) ⊢ WP c (if t < 32 then startW c t else pure ⟨⟩) (fun _ => wAt m c t) := by
  unfold wAt
  by_cases h : t < 32
  · simp only [if_pos h]; exact start_w m c t
  · simp only [if_neg h]; exact skip c _

/-- The product's right factor: tile `t`. Its slot is free after. -/
theorem load_b (c : Dev nD) (t : ℕ) :
    wGot m c t ⊢ WP c (loadB (t % 3)) (fun b => iprop(⌜shapeCast S512x2048 b shapeCasts_S1x512x2048_S512x2048 = tile m c t⌝ ∗ wFree m c (t % 3))) := by
  unfold wGot wFree loadB
  iintro ⟨Hs, Hz, Hw⟩
  ihave Hs' := (owns_unsqueeze c (wbV.slice (rW (t % 3)) (fun _ => rfl)) squeezes_S1x512x2048_S512x2048 fullShare (tile m c t) shapeCasts_S512x2048_S1x512x2048) $$ Hs
  iapply (last_ (load_part c (v := wbV) (r := rW (t % 3)) (hr := fun _ => rfl))) $$ Hs'
  iintro %b ⟨%hb, Hs⟩
  isplitr; · ipureintro; rw [hb]; exact shapeCast_back _ _ _
  isplitl [Hs]
  · iexists _
    iapply (owns_squeeze c (wbV.slice (rW (t % 3)) (fun _ => rfl)) squeezes_S1x512x2048_S512x2048 fullShare _ shapeCasts_S1x512x2048_S512x2048)
    iexact Hs
  isplitl [Hz] <;> iassumption

/-! ## The rows that arrive -/

/-- Slot `i + 1` before its rows have been waited for, -/
def pending (c : Dev nD) (i : ℕ) : sProp 𝕄 := iprop(cred (tallyAt (recvCell c (i + 1)) () NB) ∗ atPos ER (recvCell c (i + 1)) 0 ∅ 0)
/-- and after. -/
def landed (c : Dev nD) (i : ℕ) : sProp 𝕄 :=
  iprop(owns (c : Thread nD τ) (cSlot (i + 1)) fullShare (lhs m c (i + 1)) ∗ semVal (recvCell c (i + 1)) 0)
/-- The slots before step `t`: the first `t - 1` have been waited for. -/
def comm (c : Dev nD) (t : ℕ) : sProp 𝕄 := bigSep (Finset.range 7) fun i => if i + 1 < t then landed m c i else pending c i

/-- In the first chunk, step `s` waits for slot `s`. -/
theorem wait_rows (c : Dev nD) {h s : ℕ} (hs : s < 8) :
    iprop(records m ∗ ow c 7 7 0 ∗ comm m c (8 * h + s))
      ⊢ WP c (if 8 * h + s < 8 ∧ s ≠ 0 then waitR s else pure ⟨⟩) (fun _ => iprop(ow c 7 7 0 ∗ comm m c (8 * h + s + 1))) := by
  by_cases hc : 8 * h + s < 8 ∧ s ≠ 0
  · rw [if_pos hc]
    obtain ⟨i, rfl⟩ := Nat.exists_eq_succ_of_ne_zero hc.2
    have h0 : h = 0 := by omega
    subst h0
    have hi : i < 7 := by omega
    have hE : bigSep ((Finset.range 7).erase i) (fun j => if j + 1 < 8 * 0 + (i + 1) then landed m c j else pending c j)
        = bigSep ((Finset.range 7).erase i) (fun j => if j + 1 < 8 * 0 + (i + 1) + 1 then landed m c j else pending c j) :=
      bigSep_congr fun j hj => by
        have hj := Finset.ne_of_mem_erase hj
        by_cases hlt : j + 1 < 8 * 0 + (i + 1)
        · rw [if_pos hlt, if_pos (by omega)]
        · rw [if_neg hlt, if_neg (by omega)]
    unfold comm
    rw [Nat.succ_eq_add_one, range_take _ hi, range_take (n := 7) _ hi, hE, if_neg (by omega), if_pos (by omega)]
    unfold pending landed
    iintro ⟨#HR, HO, ⟨Hc, Hat⟩, Hrest⟩
    iapply (last_ (wait_recv m c hi)) $$ [HO Hc Hat]
    · isplitr; · iapply (rec_recv m c hi); iexact HR
      isplitr; · iapply (rec_lev m); iexact HR
      isplitl [Hc]; · iexact Hc
      isplitl [HO] <;> iassumption
    iintro %_ ⟨HO, Hz, Hs⟩
    isplitl [HO]; · iexact HO
    isplitr [Hrest]; swap; · iexact Hrest
    isplitl [Hs] <;> iassumption
  · rw [if_neg hc]
    have hE : comm m c (8 * h + s) = comm m c (8 * h + s + 1) := bigSep_congr fun j hj => by
      have hj := Finset.mem_range.mp hj
      by_cases hlt : j + 1 < 8 * h + s
      · rw [if_pos hlt, if_pos (by omega)]
      · rw [if_neg hlt, if_neg (by omega)]
    rw [hE]
    iintro ⟨-, H⟩
    iapply (skip c (iprop(ow c 7 7 0 ∗ comm m c (8 * h + s + 1)))); iexact H

/-- The rows of the own shard the core multiplies itself. -/
def ownRows (c : Dev nD) : sProp 𝕄 := owns (c : Thread nD τ) (bRow c) fullShare (rows m c c)

/-- The product's left factor. -/
theorem load_a (c : Dev nD) {t s : ℕ} (hs : s < 8) (ht : s < t) :
    iprop(comm m c t ∗ ownRows m c) ⊢ WP c (loadA c s) (fun a => iprop(⌜a = lhs m c s⌝ ∗ comm m c t ∗ ownRows m c)) := by
  cases s with
  | zero =>
    unfold loadA ownRows
    have ho := off3_eq c
    generalize_proofs h1 h2
    revert h1 h2
    generalize k0_off3 c = off at ho
    subst ho
    intro h1 h2
    iintro ⟨Hc, Hr⟩
    iapply (last_ (load_part c (v := bV) (r := rB c) (hr := fun _ => rfl))) $$ Hr
    iintro %a ⟨%ha, Hr⟩
    isplitr; · ipureintro; rw [ha]; unfold lhs; rw [up_zero]
    isplitl [Hc] <;> iassumption
  | succ i =>
    have hi : i < 7 := by omega
    unfold loadA comm
    rw [range_take _ hi, if_pos ht]
    unfold landed
    iintro ⟨⟨⟨Hs, Hz⟩, Hrest⟩, Hr⟩
    ihave Hs' := (owns_unsqueeze c (cV.slice (rC (i + 1)) (fun _ => rfl)) squeezes_S1x512x512_S512x512 fullShare (lhs m c (i + 1)) (by decide : S512x512.ShapeCasts S1x512x512)) $$ Hs
    iapply (then_ (load_part c (v := cV) (r := rC (i + 1)) (hr := fun _ => rfl))) $$ Hs'
    iintro %a ⟨%ha, Hs⟩
    ihave Hs' := (owns_squeeze c (cV.slice (rC (i + 1)) (fun _ => rfl)) squeezes_S1x512x512_S512x512 fullShare _ shapeCasts_S1x512x512_S512x512) $$ Hs
    iapply done_
    isplitr; · ipureintro; rw [ha]; exact shapeCast_back _ _ _
    isplitr [Hr]; swap; · iexact Hr
    isplitr [Hrest]; swap; · iexact Hrest
    isplitr [Hz]; swap; · iexact Hz
    have hb : shapeCast S512x512 (shapeCast S1x512x512 (lhs m c (i + 1)) (by decide : S512x512.ShapeCasts S1x512x512)) shapeCasts_S1x512x512_S512x512
      = lhs m c (i + 1) := shapeCast_back _ _ _
    iapply (Entails.of_eq (congrArg (owns (c : Thread nD τ) (cSlot (i + 1)) fullShare) hb)); iexact Hs'

/-! ## A step -/

/-- What the core holds before step `t`. -/
def work (c : Dev nD) (t : ℕ) : sProp 𝕄 := iprop(ow c 7 7 0 ∗ ring m c t ∗ comm m c t ∗ ownRows m c)

/-- Step `t = 8 h + s` adds the product of the rows of the device `s` places on with tile `t`. -/
theorem run_step (c : Dev nD) {h s : ℕ} (hh : h < 4) (hs : s < 8) (acc : FVec F S512x2048 .f32) :
    iprop(records m ∗ work m c (8 * h + s))
      ⊢ WP c (step c h s acc) (fun a => iprop(⌜a = accum s acc (mulT (lhs m c s) (tile m c (8 * h + s)))⌝ ∗ work m c (8 * h + s + 1))) := by
  unfold step work ring
  iintro ⟨#HR, HO, ⟨Hw, Hw1, Hf⟩, Hc, Hr⟩
  iapply (then_ (start_next m c (8 * h + s + 2))) $$ Hf
  iintro %_ Hw2
  have hw : wAt m c (8 * h + s) = wFly m c (8 * h + s) := by unfold wAt; exact if_pos (by omega)
  ihave Hw' := (Entails.of_eq hw) $$ Hw
  iapply (then_ (wait_w m c (8 * h + s))) $$ [Hw' HO]
  · isplitl [Hw']; · iexact Hw'
    isplitr; · iapply (rec_lev m); iexact HR
    iexact HO
  iintro %_ ⟨Hw, HO⟩
  iapply (then_ (wait_rows m c (h := h) hs)) $$ [HO Hc]
  · isplitr; · iexact HR
    isplitl [HO] <;> iassumption
  iintro %_ ⟨HO, Hc⟩
  iapply (then_ (load_a m c (t := 8 * h + s + 1) hs (by omega))) $$ [Hc Hr]
  · isplitl [Hc] <;> iassumption
  iintro %a ⟨%ha, Hc, Hr⟩
  iapply (then_ (load_b m c (8 * h + s))) $$ Hw
  iintro %b ⟨%hb, Hf⟩
  iapply done_
  isplitr
  · ipureintro; rw [ha, ← hb]; rfl
  isplitl [HO]; · iexact HO
  isplitr [Hc Hr]
  · isplitl [Hw1]; · iexact Hw1
    isplitl [Hw2]; · iexact Hw2
    rw [show (8 * h + s + 1 + 2) % 3 = (8 * h + s) % 3 by omega]; iexact Hf
  isplitl [Hc] <;> iassumption

/-! ## A column chunk -/

abbrev NO : ℕ := (oChunk 0).view.dmaCredit
/-- Every column chunk has the credit of one chunk, -/
theorem NO_eq (h : ℕ) : (oChunk h).view.dmaCredit = NO := rfl
/-- which is positive. -/
theorem NO_pos (h : ℕ) : 0 < (oChunk h).view.dmaCredit := View.dmaCredit_pos _ (by decide)

/-- An output slot free for the next chunk; -/
def oFree (c : Dev nD) (k : ℕ) : sProp 𝕄 := iprop(some' c (oSlot k) ∗ semVal ((c : Thread nD τ), .dma (oS k)) 0)
/-- chunk `g` computed and in the result; -/
def oDone (c : Dev nD) (g : ℕ) : sProp 𝕄 := owns (c : Thread nD τ) (oChunk g) fullShare (accAt m c g 8)
/-- chunk `g` on its way there. -/
def oFly (c : Dev nD) (g : ℕ) : sProp 𝕄 :=
  flying c (oS (g % 2)) NO iprop(oDone m c g ∗ owns (c : Thread nD τ) (oSlot (g % 2)) fullShare (accAt m c g 8))
/-- The slot of chunk `h` before it is computed: the chunk two before is on its way out of it. -/
def oPrev (c : Dev nD) : ℕ → sProp 𝕄
  | 0 => oFree c 0
  | 1 => oFree c 1
  | g + 2 => oFly m c g
/-- What waiting for that chunk brings. -/
def oGain (c : Dev nD) : ℕ → sProp 𝕄
  | 0 => iprop(emp)
  | 1 => iprop(emp)
  | g + 2 => oDone m c g

/-- An output semaphore ranks lowest. -/
theorem rank_o (t : ℕ) : rank (use (.dma (oS (t % 2)))) = 0 :=
  (by decide +kernel : ∀ k : Fin 2, rank (use (.dma (oS k.val))) = 0) ⟨t % 2, Nat.mod_lt _ (by decide)⟩

/-- The wait for chunk `g`: its slot is free, and it is in the result. -/
theorem wait_o (c : Dev nD) (g : ℕ) {b s e : ℕ} :
    iprop(oFly m c g ∗ levAts L lv ∗ ow c b s e) ⊢ WP c (waitO g) (fun _ => iprop(ow c b s e ∗ oFree c (g % 2) ∗ oDone m c g)) := by
  unfold oFly waitO oFree
  iintro H
  iapply (last_ (copy_wait c (srcw := oSlot (g % 2)) (dstw := oChunk g) (h₁ := (View.wordExact_bits rfl).reshape _ _)
    (h₂ := View.wordExact_bits rfl) (NO_eq g) (rank_o g))) $$ H
  iintro %_ ⟨⟨Hd, Hs⟩, Hz, HO⟩
  isplitl [HO]; · iexact HO
  isplitr [Hd]; swap; · iexact Hd
  isplitr [Hz]; swap; · iexact Hz
  iexists _; iexact Hs

/-- The wait for the chunk two before, if there is one. -/
theorem wait_prev (c : Dev nD) (h : ℕ) {b s e : ℕ} :
    iprop(oPrev m c h ∗ levAts L lv ∗ ow c b s e)
      ⊢ WP c (if 2 ≤ h then waitO (h - 2) else pure ⟨⟩) (fun _ => iprop(ow c b s e ∗ oFree c (h % 2) ∗ oGain m c h)) := by
  match h with
  | 0 =>
    rw [if_neg (by decide)]; unfold oPrev oGain
    refine BIBase.Entails.trans ?_ (skip c _)
    iintro ⟨H, -, HO⟩
    isplitl [HO]; · iexact HO
    isplitl [H]; · iexact H
    iempintro
  | 1 =>
    rw [if_neg (by decide)]; unfold oPrev oGain
    refine BIBase.Entails.trans ?_ (skip c _)
    iintro ⟨H, -, HO⟩
    isplitl [HO]; · iexact HO
    isplitl [H]; · iexact H
    iempintro
  | g + 2 =>
    rw [if_pos (by omega), Nat.add_sub_cancel, Nat.add_mod_right]; unfold oPrev oGain
    exact wait_o m c g

/-- A chunk: eight steps, its slot written, its copy out started. -/
theorem run_chunk (c : Dev nD) {h : ℕ} (hh : h < 4) :
    iprop((records m ∗ work m c (8 * h) ∗ oPrev m c h ∗ oPrev m c (h + 1)) ∗ some' c (oChunk h))
      ⊢ WP c (chunk c h) (fun _ => iprop((records m ∗ work m c (8 * (h + 1)) ∗ oPrev m c (h + 1) ∗ oPrev m c (h + 1 + 1)) ∗ oGain m c h)) := by
  unfold chunk
  iintro ⟨⟨#HR, Hwk, Hp, Hp1⟩, Hch⟩
  iapply (then_ (wp_foldTo (a := constant S512x2048 .f32 0x00000000#32)
    (fun s a => iprop(⌜a = accAt m c h s⌝ ∗ records m ∗ work m c (8 * h + s))) 8 (fun s hs a => by
      iintro ⟨%ha, #HR, H⟩
      iapply (last_ (run_step m c hh hs a)) $$ [H]
      · isplitr; · iexact HR
        iexact H
      iintro %a' ⟨%ha', H⟩
      isplitr; · ipureintro; rw [ha', ha]; rfl
      isplitr; · iexact HR
      iexact H))) $$ [Hwk]
  · isplitr; · ipureintro; rfl
    isplitr; · iexact HR
    iexact Hwk
  iintro %acc ⟨%hacc, -, Hwk⟩
  subst hacc
  unfold work
  icases Hwk with ⟨HO, Hring, Hc, Hr⟩
  iapply (then_ (wait_prev m c h)) $$ [Hp HO]
  · isplitl [Hp]; · iexact Hp
    isplitr; · iapply (rec_lev m); iexact HR
    iexact HO
  iintro %_ ⟨HO, Hf, Hg⟩
  unfold oFree
  icases Hf with ⟨⟨%Y, Hs⟩, Hz⟩
  ihave Hs' := (owns_unsqueeze c (obV.slice (rO (h % 2)) (fun _ => rfl)) squeezes_S1x512x2048_S512x2048 fullShare Y shapeCasts_S512x2048_S1x512x2048) $$ Hs
  iapply (then_ (load_part c (v := obV) (r := rO (h % 2)) (hr := fun _ => rfl))) $$ Hs'
  iintro %_ ⟨-, Hs⟩
  iapply (then_ (store_part c (v := obV) (r := rO (h % 2)) (hr := fun _ => rfl))) $$ [Hs]
  · iexists _; iexact Hs
  iintro %_ Hs
  ihave Hs' := (owns_squeeze c (obV.slice (rO (h % 2)) (fun _ => rfl)) squeezes_S1x512x2048_S512x2048 fullShare _ shapeCasts_S1x512x2048_S512x2048) $$ Hs
  have hb : shapeCast S512x2048 (shapeCast S1x512x2048 (accAt m c h 8) shapeCasts_S512x2048_S1x512x2048) shapeCasts_S1x512x2048_S512x2048
    = accAt m c h 8 := shapeCast_back _ _ _
  rw [hb]
  unfold startO
  have ho := copy_start (F := F) c (src := oSlot (h % 2)) (dst := oChunk h) (sem := oS (h % 2)) (h₁ := (View.wordExact_bits rfl).reshape _ _)
    (h₂ := View.wordExact_bits rfl) (h₃ := ⟨Or.inl rfl, trivial⟩) (NO_pos h) (q := fullShare) (X := accAt m c h 8)
  rw [NO_eq] at ho
  iapply (last_ ho) $$ [Hs' Hch Hz]
  · isplitl [Hs']; · iexact Hs'
    isplitl [Hch]; · iexact Hch
    iexact Hz
  iintro %_ Hfl
  isplitr [Hg]; swap; · iexact Hg
  isplitr; · iexact HR
  isplitr [Hp1 Hfl]
  · isplitl [HO]; · iexact HO
    isplitl [Hring]; · iexact Hring
    isplitl [Hc] <;> iassumption
  isplitl [Hp1]; · iexact Hp1
  rw [show oPrev m c (h + 1 + 1) = oFly m c h from rfl]
  unfold oFly oDone
  iexact Hfl

end Cert.KernelIdeal.Own

end
-- ==== Proof.Parts.lean ====
/- The buffers in parts: the scratch buffers' slots, the shard's blocks of rows, the result's column chunks, the shares of the
   weights. -/
module

public import proofs.«01_k».proof.Proof.Steps
public import Idealize.ShloMosaic.Lib.Ring

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Conjunctions over ranges -/

/-- A conjunction over `Fin n` is one over the range. -/
theorem range_fin (n : ℕ) (Φ : ℕ → sProp 𝕄) : bigSep Finset.univ (fun i : Fin n => Φ i.val) = bigSep (Finset.range n) Φ := by
  rw [← Nat.Iio_eq_range, ← Fin.map_valEmbedding_univ, BI.bigSep_map]; rfl

/-- Over nothing it is nothing. -/
theorem range_none (Φ : ℕ → sProp 𝕄) : bigSep (Finset.range 0) Φ = iprop(emp) := by rw [Finset.range_zero]; exact BI.bigSep_empty

/-- The first part of a range apart. -/
theorem range_first (Φ : ℕ → sProp 𝕄) (n : ℕ) : bigSep (Finset.range (n + 1)) Φ = iprop(Φ 0 ∗ bigSep (Finset.range n) fun i => Φ (i + 1)) := by
  induction n with
  | zero => rw [range_last]; simp only [range_none]
  | succ n ih =>
    rw [range_last, ih, range_last (fun i => Φ (i + 1))]
    have h : iprop(Φ (n + 1) ∗ Φ 0 ∗ bigSep (Finset.range n) fun i => Φ (i + 1)) ⊣⊢ iprop(Φ 0 ∗ Φ (n + 1) ∗ bigSep (Finset.range n) fun i => Φ (i + 1)) := by
      constructor <;> (iintro ⟨H, H', H''⟩; isplitl [H']; (· iexact H'); isplitl [H] <;> iassumption)
    exact BI.equiv_iff.mp ⟨h.1, h.2⟩

/-- A range of pairs is a pair of ranges. -/
theorem range_sep (n : ℕ) (Φ Ψ : ℕ → sProp 𝕄) :
    bigSep (Finset.range n) (fun i => iprop(Φ i ∗ Ψ i)) = iprop(bigSep (Finset.range n) Φ ∗ bigSep (Finset.range n) Ψ) := bigSep_sep' _ Φ Ψ

/-- A range, part by part. -/
theorem range_mono (n : ℕ) {Φ Ψ : ℕ → sProp 𝕄} (h : ∀ i, i < n → Φ i ⊢ Ψ i) : bigSep (Finset.range n) Φ ⊢ bigSep (Finset.range n) Ψ :=
  bigSep_mono fun i hi => h i (Finset.mem_range.mp hi)

/-- A range of nothings. -/
theorem range_emp (n : ℕ) : (iprop(emp) : sProp 𝕄) ⊢ bigSep (Finset.range n) (fun _ => iprop(emp)) :=
  Entails.of_eq (bigSep_emp_const _).symm

/-- All devices: device `c` and those `1, …, 7` places back. -/
theorem around (c : Dev nD) (Φ : ℕ → sProp 𝕄) :
    bigSep (Finset.range 8) Φ = iprop(Φ c.val ∗ bigSep (Finset.range 7) fun i => Φ (dn c (i + 1)).val) := by
  have hb : Function.Bijective (fun i : Fin 8 => (dn c i.val : Fin 8)) := by revert c; decide +kernel
  rw [← range_fin 8 Φ, bigSep_univ_equiv (Equiv.ofBijective _ hb)]
  show bigSep Finset.univ (fun i : Fin 8 => (fun k : ℕ => Φ (dn c k).val) i.val) = _
  rw [range_fin 8 (fun k : ℕ => Φ (dn c k).val), range_first]
  have h0 : dn c 0 = c := by revert c; decide +kernel
  rw [h0]

/-! ## A buffer and its parts -/

section Parts
variable (c : Dev nD) {n : ℕ} (b : Ref sig .tc) (r : ℕ → Rect b.ty.shape) (hr : ∀ t a, (r t).stride a = 1)
  (hd : ∀ t t' : Fin n, t ≠ t' → Disjoint (r t.val).set (r t'.val).set)
  (hcov : (Finset.univ : Finset (Fin n)).biUnion (fun t => (r t.val).set) = Finset.univ)
include hd hcov

/-- A buffer owned whole is its parts owned; -/
theorem parts_of (X : b.ty.Contents (Elt F)) :
    (((c : Thread nD τ).loc b) ↦{fullShare} X : sProp 𝕄)
      ⊢ bigSep (Finset.range n) fun t => owns (c : Thread nD τ) ((Memref.whole b).slice (r t) (hr t)) fullShare (fun j => X ((r t).emb j)) := by
  rw [← range_fin, ← owns_whole (c : Thread nD τ) b fullShare X]
  exact owns_rects (c : Thread nD τ) (Memref.whole b) fullShare (fun t : Fin n => r t.val) (fun t => hr t.val) hd hcov X

/-- parts owned at their parts of one contents are the buffer owned at that; -/
theorem of_parts [∀ e, Nonempty (Elt F e)] (X : b.ty.Contents (Elt F)) :
    bigSep (Finset.range n) (fun t => owns (c : Thread nD τ) ((Memref.whole b).slice (r t) (hr t)) fullShare (fun j => X ((r t).emb j)))
      ⊢ (((c : Thread nD τ).loc b) ↦{fullShare} X : sProp 𝕄) := by
  rw [← range_fin, ← owns_whole (c : Thread nD τ) b fullShare X]
  exact owns_of_rects (c : Thread nD τ) (Memref.whole b) fullShare (fun t : Fin n => r t.val) (fun t => hr t.val) hd hcov X

/-- and the same at contents not said. -/
theorem some_parts_of :
    (iprop(∃ f, ((c : Thread nD τ).loc b) ↦{fullShare} f) : sProp 𝕄)
      ⊢ bigSep (Finset.range n) fun t => some' c ((Memref.whole b).slice (r t) (hr t)) := by
  iintro ⟨%f, H⟩
  ihave H' := (parts_of c b r hr hd hcov f) $$ H
  iapply (range_mono n (fun t _ => (by iintro H; iexists _; iexact H :
    owns (c : Thread nD τ) ((Memref.whole b).slice (r t) (hr t)) fullShare (fun j => f ((r t).emb j)) ⊢ (some' c ((Memref.whole b).slice (r t) (hr t)) : sProp 𝕄))))
  iexact H'

/-- Parts owned at any contents are the buffer owned at some. -/
theorem some_of_parts [∀ e, Nonempty (Elt F e)] :
    bigSep (Finset.range n) (fun t => some' c ((Memref.whole b).slice (r t) (hr t)))
      ⊢ (iprop(∃ f, ((c : Thread nD τ).loc b) ↦{fullShare} f) : sProp 𝕄) := by
  rw [← range_fin]
  have hdv (t t' : Fin n) (h : t ≠ t') : Disjoint ((Memref.whole b).slice (r t.val) (hr t.val)).view.set ((Memref.whole b).slice (r t'.val) (hr t'.val)).view.set := by
    show Disjoint ((Memref.whole b).view.slice (r t.val)).set ((Memref.whole b).view.slice (r t'.val)).set
    rw [View.set_slice, View.set_slice]; exact (Finset.disjoint_map _).mpr (hd t t' h)
  have hcv : (Finset.univ : Finset (Fin n)).biUnion (fun t => (show Finset (Idx ((c : Thread nD τ).loc b)) from ((Memref.whole b).slice (r t.val) (hr t.val)).view.set)) = Finset.univ := by
    have h : ∀ t : Fin n, ((Memref.whole b).slice (r t.val) (hr t.val)).view.set = (r t.val).set := fun t => View.set_slice_whole b (r t.val)
    simp only [h]; exact hcov
  refine BIBase.Entails.trans (bigSep_mono fun t _ => ?_) (Ring.pointsTo_blocks_join_exists _ hdv hcv (fun _ => Classical.arbitrary _))
  show some' c ((Memref.whole b).slice (r t.val) (hr t.val)) ⊢ (iprop(∃ f, ((c : Thread nD τ).loc b) ↦[((Memref.whole b).slice (r t.val) (hr t.val)).view.set]{fullShare} f) : sProp 𝕄)
  iintro ⟨%Y, H⟩
  ihave H' := (show owns (c : Thread nD τ) ((Memref.whole b).slice (r t.val) (hr t.val)) fullShare Y
    ⊢ (iprop(∃ f, ⌜((Memref.whole b).slice (r t.val) (hr t.val)).view.read (Elt F) f = Y⌝
      ∗ (((c : Thread nD τ).loc b) ↦[((Memref.whole b).slice (r t.val) (hr t.val)).view.set]{fullShare} f)) : sProp 𝕄) from .rfl) $$ H
  icases H' with ⟨%f, -, H⟩
  iexists f; iexact H
end Parts

/-- A view owned is the view without its unit axis owned, -/
theorem some_squeeze (c : Dev nD) {sp : Space} {s s' : Shape} {e : EltTy} (v : Memref sig .tc sp s e) (h : s.Squeezes s') :
    (some' c v : sProp 𝕄) ⊢ some' c (v.squeeze s' h) := by
  iintro ⟨%Y, H⟩
  iexists _
  iapply (owns_squeeze c v h fullShare Y h.numel_eq); iexact H
/-- and the other way round. -/
theorem some_unsqueeze (c : Dev nD) {sp : Space} {s s' : Shape} {e : EltTy} (v : Memref sig .tc sp s e) (h : s.Squeezes s') :
    (some' c (v.squeeze s' h) : sProp 𝕄) ⊢ some' c v := by
  iintro ⟨%Y, H⟩
  iexists _
  iapply (owns_unsqueeze c v h fullShare Y h.numel_eq.symm); iexact H

/-! ## The five buffers -/

/-- The receive buffer's slots are disjoint -/
theorem rC_disjoint : ∀ t t' : Fin 8, t ≠ t' → Disjoint (rC t.val).set (rC t'.val).set :=
  Ring.lead_disjoint (s := S8x512x512) 0 1 (fun b => ![min b.val 7, 0, 0]) S1x512x512.size (fun b => inbC b.val) (by decide +kernel) rfl
/-- and are all of it. -/
theorem rC_cover : (Finset.univ : Finset (Fin 8)).biUnion (fun t => (rC t.val).set) = Finset.univ :=
  Ring.lead_cover (s := S8x512x512) 0 1 (fun b => ![min b.val 7, 0, 0]) S1x512x512.size (fun b => inbC b.val) (by decide +kernel) (by decide +kernel) rfl (by decide) rfl
/-- The shard's blocks of rows are disjoint -/
theorem rB_disjoint : ∀ t t' : Fin 8, t ≠ t' → Disjoint (rB t.val).set (rB t'.val).set :=
  Ring.lead_disjoint (s := S4096x512) 0 512 (fun b => ![512 * min b.val 7, 0]) S512x512.size (fun b => inbB b.val) (by decide +kernel) rfl
/-- and are all of it. -/
theorem rB_cover : (Finset.univ : Finset (Fin 8)).biUnion (fun t => (rB t.val).set) = Finset.univ :=
  Ring.lead_cover (s := S4096x512) 0 512 (fun b => ![512 * min b.val 7, 0]) S512x512.size (fun b => inbB b.val) (by decide +kernel) (by decide +kernel) rfl (by decide) rfl
/-- The weight buffer's slots are disjoint -/
theorem rW_disjoint : ∀ t t' : Fin 3, t ≠ t' → Disjoint (rW t.val).set (rW t'.val).set :=
  Ring.lead_disjoint (s := S3x512x2048) 0 1 (fun b => ![min b.val 2, 0, 0]) S1x512x2048.size (fun b => inbW b.val) (by decide +kernel) rfl
/-- and are all of it. -/
theorem rW_cover : (Finset.univ : Finset (Fin 3)).biUnion (fun t => (rW t.val).set) = Finset.univ :=
  Ring.lead_cover (s := S3x512x2048) 0 1 (fun b => ![min b.val 2, 0, 0]) S1x512x2048.size (fun b => inbW b.val) (by decide +kernel) (by decide +kernel) rfl (by decide) rfl
/-- The output buffer's slots are disjoint -/
theorem rO_disjoint : ∀ t t' : Fin 2, t ≠ t' → Disjoint (rO t.val).set (rO t'.val).set :=
  Ring.lead_disjoint (s := S2x512x2048) 0 1 (fun b => ![min b.val 1, 0, 0]) S1x512x2048.size (fun b => inbO b.val) (by decide +kernel) rfl
/-- and are all of it. -/
theorem rO_cover : (Finset.univ : Finset (Fin 2)).biUnion (fun t => (rO t.val).set) = Finset.univ :=
  Ring.lead_cover (s := S2x512x2048) 0 1 (fun b => ![min b.val 1, 0, 0]) S1x512x2048.size (fun b => inbO b.val) (by decide +kernel) (by decide +kernel) rfl (by decide) rfl
/-- The result's chunks are disjoint -/
theorem rV_disjoint : ∀ t t' : Fin 4, t ≠ t' → Disjoint (rV t.val).set (rV t'.val).set :=
  Ring.lead_disjoint (s := S512x8192) 1 2048 (fun b => ![0, 2048 * min b.val 3]) S512x2048.size (fun b => inbV b.val) (by decide +kernel) rfl
/-- and are all of it. -/
theorem rV_cover : (Finset.univ : Finset (Fin 4)).biUnion (fun t => (rV t.val).set) = Finset.univ :=
  Ring.lead_cover (s := S512x8192) 1 2048 (fun b => ![0, 2048 * min b.val 3]) S512x2048.size (fun b => inbV b.val) (by decide +kernel) (by decide +kernel) rfl (by decide) rfl

/-- A buffer owned whole, its contents not said. -/
abbrev any (c : Dev nD) (b : Ref sig .tc) : sProp 𝕄 := iprop(∃ f, ((c : Thread nD τ).loc b) ↦{fullShare} f)

/-- The receive buffer is its slot 0, never used, and the seven others. -/
theorem comm_split (c : Dev nD) : (any c cc0_scratch1 : sProp 𝕄) ⊢ iprop(some' c (cSlot 0) ∗ bigSep (Finset.range 7) fun i => some' c (cSlot (i + 1))) := by
  rw [← range_first (fun k => some' c (cSlot k)) 7]
  exact (some_parts_of c cc0_scratch1 rC (fun _ _ => rfl) rC_disjoint rC_cover).trans
    (range_mono 8 fun k _ => some_squeeze c (cV.slice (rC k) (fun _ => rfl)) squeezes_S1x512x512_S512x512)
/-- The eight slots are the receive buffer again. -/
theorem comm_join (c : Dev nD) : iprop(some' c (cSlot 0) ∗ bigSep (Finset.range 7) fun i => some' c (cSlot (i + 1))) ⊢ (any c cc0_scratch1 : sProp 𝕄) := by
  rw [← range_first (fun k => some' c (cSlot k)) 7]
  exact (range_mono 8 fun k _ => some_unsqueeze c (cV.slice (rC k) (fun _ => rfl)) squeezes_S1x512x512_S512x512).trans
    (some_of_parts c cc0_scratch1 rC (fun _ _ => rfl) rC_disjoint rC_cover)

/-- The weight buffer is its three slots. -/
theorem wslots_split (c : Dev nD) : (any c cc0_scratch2 : sProp 𝕄) ⊢ bigSep (Finset.range 3) fun k => some' c (wSlot k) :=
  (some_parts_of c cc0_scratch2 rW (fun _ _ => rfl) rW_disjoint rW_cover).trans
    (range_mono 3 fun k _ => some_squeeze c (wbV.slice (rW k) (fun _ => rfl)) squeezes_S1x512x2048_S512x2048)
/-- The three slots are the weight buffer again. -/
theorem wslots_join (c : Dev nD) : bigSep (Finset.range 3) (fun k => some' c (wSlot k)) ⊢ (any c cc0_scratch2 : sProp 𝕄) :=
  (range_mono 3 fun k _ => some_unsqueeze c (wbV.slice (rW k) (fun _ => rfl)) squeezes_S1x512x2048_S512x2048).trans
    (some_of_parts c cc0_scratch2 rW (fun _ _ => rfl) rW_disjoint rW_cover)

/-- The output buffer is its two slots. -/
theorem oslots_split (c : Dev nD) : (any c cc0_scratch3 : sProp 𝕄) ⊢ bigSep (Finset.range 2) fun k => some' c (oSlot k) :=
  (some_parts_of c cc0_scratch3 rO (fun _ _ => rfl) rO_disjoint rO_cover).trans
    (range_mono 2 fun k _ => some_squeeze c (obV.slice (rO k) (fun _ => rfl)) squeezes_S1x512x2048_S512x2048)
/-- The two slots are the output buffer again. -/
theorem oslots_join (c : Dev nD) : bigSep (Finset.range 2) (fun k => some' c (oSlot k)) ⊢ (any c cc0_scratch3 : sProp 𝕄) :=
  (range_mono 2 fun k _ => some_unsqueeze c (obV.slice (rO k) (fun _ => rfl)) squeezes_S1x512x2048_S512x2048).trans
    (some_of_parts c cc0_scratch3 rO (fun _ _ => rfl) rO_disjoint rO_cover)

/-- The rounded shard: the core's own rows and those it sends. -/
theorem shard_split (c : Dev nD) : (((c : Thread nD τ).loc cc0_scratch0) ↦{fullShare} shard m c : sProp 𝕄)
    ⊢ iprop(ownRows m c ∗ bigSep (Finset.range 7) fun i => owns (c : Thread nD τ) (bRow (dn c (i + 1))) fullShare (rows m c (dn c (i + 1)))) := by
  refine (parts_of c cc0_scratch0 rB (fun _ _ => rfl) rB_disjoint rB_cover (shard m c)).trans ?_
  exact Entails.of_eq (around c fun e => owns (c : Thread nD τ) (bRow e) fullShare (rows m c e))
/-- The blocks of rows are the shard's buffer again. -/
theorem shard_join (c : Dev nD) :
    iprop(ownRows m c ∗ bigSep (Finset.range 7) fun i => owns (c : Thread nD τ) (bRow (dn c (i + 1))) fullShare (rows m c (dn c (i + 1))))
      ⊢ (any c cc0_scratch0 : sProp 𝕄) := by
  refine BIBase.Entails.trans ?_ (some_of_parts c cc0_scratch0 rB (fun _ _ => rfl) rB_disjoint rB_cover)
  refine (Entails.of_eq (around c fun e => owns (c : Thread nD τ) (bRow e) fullShare (rows m c e)).symm).trans ?_
  exact range_mono 8 fun e _ => by iintro H; iexists _; iexact H

/-- The result's column chunks. -/
theorem out_split (c : Dev nD) (X : S512x8192.Idx → Elt F .f32) : (((c : Thread nD τ).loc main_v1) ↦{fullShare} X : sProp 𝕄)
    ⊢ bigSep (Finset.range 4) fun h => some' c (oChunk h) := by
  refine BIBase.Entails.trans ?_ (some_parts_of c main_v1 rV (fun _ _ => rfl) rV_disjoint rV_cover)
  iintro H; iexists X; iexact H

/-- The columns of chunk `h` of the result are those that accumulated for it. -/
theorem outAt_chunk (c : Dev nD) {h : ℕ} (hh : h < 4) : (fun j => outAt m c ((rV h).emb j)) = accAt m c h 8 := by
  funext j
  have h0 : ((rV h).emb j 0).val = (j 0).val := by
    show (![0, 2048 * min h 3] : Fin 2 → ℕ) 0 + 1 * (j 0).val = _; simp
  have h1 : ((rV h).emb j 1).val = 2048 * h + (j 1).val := by
    show (![0, 2048 * min h 3] : Fin 2 → ℕ) 1 + 1 * (j 1).val = _
    rw [Nat.min_eq_left (by omega)]; simp
  have hj : (j 1).val < 2048 := (j 1).isLt
  unfold outAt
  rw [show ((rV h).emb j 1).val / 2048 = h by rw [h1]; omega]
  refine congrArg _ (funext fun a => ?_)
  match a with
  | ⟨0, _⟩ => exact Fin.ext h0
  | ⟨1, _⟩ => exact Fin.ext (by show ((rV h).emb j 1).val % 2048 = (j 1).val; rw [h1]; omega)

/-- The four chunks in place are the result at `outAt`. -/
theorem out_join (c : Dev nD) : bigSep (Finset.range 4) (fun h => oDone m c h) ⊢ (((c : Thread nD τ).loc main_v1) ↦{fullShare} outAt m c : sProp 𝕄) := by
  refine BIBase.Entails.trans (range_mono 4 fun h hh => ?_) (of_parts c main_v1 rV (fun _ _ => rfl) rV_disjoint rV_cover (outAt m c))
  unfold oDone
  exact Entails.of_eq (congrArg (owns (c : Thread nD τ) (oChunk h) fullShare) (outAt_chunk m c hh).symm)

/-- The weights: one share for each slot's copies, and one kept. -/
theorem wts_shares (c : Dev nD) : wAll m c fullShare ⊣⊢ iprop(wAll m c (Transfers.shareDrop fullShare 3) ∗ bigSep (Finset.range 3) fun k => wAll m c (tok k)) :=
  Transfers.pointsTo_toks_range fullShare 3

end Cert.KernelIdeal.Own

end
-- ==== Proof.Body.lean ====
/- The kernel's body on one core: from the launch's buffers, semaphores and tokens to the product in the result. -/
module

public import proofs.«01_k».proof.Proof.Parts

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ)

/-! ## Rounding the shard -/

/-- The two zero offsets are the constant zero. -/
theorem zeros : (![0, 0] : Fin 2 → ℕ) = fun _ => 0 := by decide

/-- The rectangle that is all of the shard. -/
abbrev rAll : Rect S4096x512 := Rect.unit (s := S4096x512) ![0, 0] S4096x512.size inb_S4096x512_S4096x512_0_0

/-- A load from a buffer of which all that the access touches is owned. -/
theorem load_all (c : Dev nD) {cs : CoreSpace} {s : Shape} {e : EltTy} {v : Memref sig .tc cs s e} {r : Rect s} {hl : v.view.LoadsAt r.toLoadRect}
    {q : PosShare TreeShare} {S : Finset (Idx ((v.access r).loc (c : Thread nD τ)))} {f : Buf (Elt F) ((v.access r).loc (c : Thread nD τ))} (hS : (v.access r).set ⊆ S) :
    ((v.access r).loc (c : Thread nD τ) ↦[S]{q} f : sProp 𝕄)
      ⊢ WP c (Prog.lift (.load v r.toLoadRect hl)) (fun x => iprop(⌜x = (v.access r).read (Elt F) f⌝ ∗ ((v.access r).loc (c : Thread nD τ) ↦[S]{q} f))) := by
  iintro H
  iapply (wp_load_rect 𝒱₀ (c : Thread nD τ) none Set.univ (m := v) (r := r) hS) $$ H
  iintro H
  rw [wp_ret]; imodintro
  isplitr; · ipureintro; rfl
  iexact H

/-- The staged shard is read and its rounding kept. -/
theorem run_convert (c : Dev nD) :
    iprop((((c : Thread nD τ).loc cc0_stg0_0) ↦{fullShare} (m ((c : Thread nD τ).loc main_arg0) : S4096x512.Idx → Elt F .f32)) ∗ any c cc0_scratch0)
      ⊢ WP c convert (fun _ => iprop((((c : Thread nD τ).loc cc0_stg0_0) ↦{fullShare} (m ((c : Thread nD τ).loc main_arg0) : S4096x512.Idx → Elt F .f32))
        ∗ (((c : Thread nD τ).loc cc0_scratch0) ↦{fullShare} shard m c))) := by
  unfold convert
  iintro ⟨Hx, ⟨%f, Hb⟩⟩
  iapply (then_ (load_all c (v := xV) (r := rAll) (S := Finset.univ) (f := (m ((c : Thread nD τ).loc main_arg0) : S4096x512.Idx → Elt F .f32)) (Finset.subset_univ _))) $$ Hx
  iintro %x ⟨%hx, Hx⟩
  have hr := Memref.read_access_unit_zero (Elt F) cc0_stg0_0 zeros inb_S4096x512_S4096x512_0_0 (m ((c : Thread nD τ).loc main_arg0) : S4096x512.Idx → Elt F .f32)
  have hx' : x = (m ((c : Thread nD τ).loc main_arg0) : S4096x512.Idx → Elt F .f32) := hx.trans hr
  subst hx'
  iapply (then_ (load_all c (v := bV) (r := rAll) (S := Finset.univ) (f := f) (Finset.subset_univ _))) $$ Hb
  iintro %_ ⟨-, Hb⟩
  iapply (wp_store 𝒱₀ (c : Thread nD τ) none Set.univ (m := bV) (r := rAll) (Mk := Finset.univ) (S := Finset.univ) (f := f) (Finset.subset_univ _)) $$ Hb
  iintro Hb
  rw [wp_ret]; imodintro
  isplitl [Hx]; · iexact Hx
  have hw := Memref.write_access_unit_zero_univ (Elt F) cc0_scratch0 zeros inb_S4096x512_S4096x512_0_0 f (k0_pay1 (m ((c : Thread nD τ).loc main_arg0)))
  iapply (Entails.of_eq (congrArg (fun g => (((c : Thread nD τ).loc cc0_scratch0) ↦{fullShare} g : sProp 𝕄)) hw)); iexact Hb

/-! ## What the core starts from and ends with -/

/-- The duty tokens device `c` pays with. -/
def toks (c : Dev nD) : sProp 𝕄 :=
  bigSep (Finset.range 7) fun i => iprop(dutyTok ER (barCell (up c (i + 1))) 0 i ∗ dutyTok ER (endCell (up c (i + 1))) 0 i
    ∗ dutyTok ER (sendCell c (i + 1)) 0 0 ∗ dutyTok ER (recvCell (dn c (i + 1)) (i + 1)) 0 0)
/-- The positions of the cells device `c` waits on, -/
def places (c : Dev nD) : sProp 𝕄 :=
  iprop(atPos ER (barCell c) 0 ∅ 0 ∗ atPos ER (endCell c) 0 ∅ 0
    ∗ bigSep (Finset.range 7) fun i => iprop(atPos ER (sendCell c (i + 1)) 0 ∅ 0 ∗ atPos ER (recvCell c (i + 1)) 0 ∅ 0))
/-- and the credit of those others pay. -/
def credits (c : Dev nD) : sProp 𝕄 :=
  iprop(cred (tallyAt (barCell c) () 7) ∗ cred (tallyAt (endCell c) () 7) ∗ bigSep (Finset.range 7) fun i => cred (tallyAt (recvCell c (i + 1)) () NB))
/-- The semaphores of the copies within the device, at zero. -/
def copySems (c : Dev nD) : sProp 𝕄 :=
  iprop((bigSep (Finset.range 3) fun k => semVal ((c : Thread nD τ), .dma (wS k)) 0) ∗ bigSep (Finset.range 2) fun k => semVal ((c : Thread nD τ), .dma (oS k)) 0)
/-- The buffers, the result's contents apart. -/
def buffers (c : Dev nD) : sProp 𝕄 :=
  iprop((((c : Thread nD τ).loc cc0_stg0_0) ↦{fullShare} (m ((c : Thread nD τ).loc main_arg0) : S4096x512.Idx → Elt F .f32))
    ∗ (any c cc0_scratch0 ∗ any c cc0_scratch1 ∗ any c cc0_scratch2 ∗ any c cc0_scratch3) ∗ wAll m c fullShare)
abbrev result (c : Dev nD) (X : S512x8192.Idx → Elt F .f32) : sProp 𝕄 := ((c : Thread nD τ).loc main_v1) ↦{fullShare} X
/-- The cells of the schedule, waited for and at zero. -/
def spent (c : Dev nD) : sProp 𝕄 :=
  iprop(semVal (barCell c) 0 ∗ semVal (endCell c) 0
    ∗ bigSep (Finset.range 7) fun i => iprop(semVal (sendCell c (i + 1)) 0 ∗ semVal (recvCell c (i + 1)) 0))

/-! ## The slots at the beginning and the end -/

/-- The weight buffer, its semaphores at zero and the shares of the weights are the three free slots. -/
theorem wfree_split (c : Dev nD) : iprop(any c cc0_scratch2 ∗ (bigSep (Finset.range 3) fun k => semVal ((c : Thread nD τ), .dma (wS k)) 0) ∗ bigSep (Finset.range 3) fun k => wAll m c (tok k))
    ⊢ bigSep (Finset.range 3) fun k => wFree m c k := by
  unfold wFree
  rw [range_sep, range_sep]
  exact sep_mono_left (wslots_split c)
/-- The three free slots give them back. -/
theorem wfree_join (c : Dev nD) : bigSep (Finset.range 3) (fun k => wFree m c k)
    ⊢ iprop(any c cc0_scratch2 ∗ (bigSep (Finset.range 3) fun k => semVal ((c : Thread nD τ), .dma (wS k)) 0) ∗ bigSep (Finset.range 3) fun k => wAll m c (tok k)) := by
  unfold wFree
  rw [range_sep, range_sep]
  exact sep_mono_left (wslots_join c)
/-- The output buffer and its semaphores at zero are the two free slots. -/
theorem ofree_split (c : Dev nD) : iprop(any c cc0_scratch3 ∗ bigSep (Finset.range 2) fun k => semVal ((c : Thread nD τ), .dma (oS k)) 0)
    ⊢ (bigSep (Finset.range 2) fun k => oFree c k : sProp 𝕄) := by
  unfold oFree
  rw [range_sep]
  exact sep_mono_left (oslots_split c)
/-- The two free slots give them back. -/
theorem ofree_join (c : Dev nD) : (bigSep (Finset.range 2) fun k => oFree c k : sProp 𝕄)
    ⊢ iprop(any c cc0_scratch3 ∗ bigSep (Finset.range 2) fun k => semVal ((c : Thread nD τ), .dma (oS k)) 0) := by
  unfold oFree
  rw [range_sep]
  exact sep_mono_left (oslots_join c)

/-- A conjunction over two, written out. -/
theorem two (Φ : ℕ → sProp 𝕄) : bigSep (Finset.range 2) Φ ⊣⊢ iprop(Φ 0 ∗ Φ 1) := by
  rw [range_first, range_first, range_none]
  exact ⟨sep_mono_right Laws.sep_emp.1, sep_mono_right Laws.sep_emp.2⟩
/-- A conjunction over three, written out. -/
theorem three (Φ : ℕ → sProp 𝕄) : bigSep (Finset.range 3) Φ ⊣⊢ iprop(Φ 0 ∗ Φ 1 ∗ Φ 2) := by
  rw [range_first]
  exact ⟨sep_mono_right (two fun i => Φ (i + 1)).1, sep_mono_right (two fun i => Φ (i + 1)).2⟩
/-- A conjunction over four, written out. -/
theorem four (Φ : ℕ → sProp 𝕄) : bigSep (Finset.range 4) Φ ⊣⊢ iprop(Φ 0 ∗ Φ 1 ∗ Φ 2 ∗ Φ 3) := by
  rw [range_first]
  exact ⟨sep_mono_right (three fun i => Φ (i + 1)).1, sep_mono_right (three fun i => Φ (i + 1)).2⟩

/-- Before the first step all seven slots are waited for. -/
theorem comm_first (c : Dev nD) : comm m c 0 = bigSep (Finset.range 7) fun i => pending c i :=
  bigSep_congr fun i _ => if_neg (by omega)
/-- After the last step all seven have landed. -/
theorem comm_last (c : Dev nD) : comm m c 32 = bigSep (Finset.range 7) fun i => landed m c i :=
  bigSep_congr fun i hi => if_pos (by have := Finset.mem_range.mp hi; omega)

/-- Any tile on its way is in its slot's state. -/
theorem wAt_fly (c : Dev nD) {t : ℕ} (h : t < 32) : wFly m c t ⊢ wAt m c t := by unfold wAt; rw [if_pos h]
/-- Past the last tile the slot is free. -/
theorem wAt_free (c : Dev nD) {t k : ℕ} (h : ¬ t < 32) (hk : t % 3 = k) : wAt m c t ⊢ wFree m c k := by unfold wAt; rw [if_neg h, hk]

/-- Before chunk `g + 2` chunk `g` is on its way out of the slot. -/
theorem prev_fly (c : Dev nD) (g : ℕ) : oPrev m c (g + 2) ⊢ oFly m c g := by unfold oPrev; iintro H; iexact H
/-- The wait for it brings chunk `g` of the result. -/
theorem gain_done (c : Dev nD) (g : ℕ) : oGain m c (g + 2) ⊢ oDone m c g := by unfold oGain; iintro H; iexact H

/-! ## The phases -/

/-- The seven opening signals. -/
theorem run_signals (c : Dev nD) :
    iprop((records m ∗ ow c 0 0 0) ∗ bigSep (Finset.range 7) fun i => iprop(dutyTok ER (barCell (up c (i + 1))) 0 i ∗ some' c (cSlot (i + 1))))
      ⊢ WP c (upTo (fun i => semSignalWord (devB c i) barS 1#32) 7) (fun _ => iprop((records m ∗ ow c 7 0 0) ∗ bigSep (Finset.range 7) fun _ => iprop(emp))) := by
  refine wp_upTo (fun i => iprop(records m ∗ ow c i 0 0)) (fun i => iprop(dutyTok ER (barCell (up c (i + 1))) 0 i ∗ some' c (cSlot (i + 1)))) (fun _ => iprop(emp)) 7 (fun i hi => ?_)
  iintro ⟨⟨#HR, HO⟩, Hd, Hs⟩
  ihave Hk := (rec_recv m c hi) $$ HR
  unfold knows
  icases Hk with ⟨-, Hre⟩
  iapply (last_ (signal_bar m c hi)) $$ [HO Hd Hs Hre]
  · isplitr; · iapply (rec_bar m (up c (i + 1))); iexact HR
    isplitl [HO]; · iexact HO
    isplitl [Hd]; · iexact Hd
    isplitl [Hs]; · iexact Hs
    iexact Hre
  iintro %_ HO
  isplitl
  · isplitr; · iexact HR
    iexact HO
  iempintro

/-- The seven sends. -/
theorem run_sends (c : Dev nD) :
    iprop((records m ∗ ow c 7 0 0) ∗ bigSep (Finset.range 7) fun i => iprop(owns (c : Thread nD τ) (bRow (dn c (i + 1))) fullShare (rows m c (dn c (i + 1)))
        ∗ handOver c i ∗ dutyTok ER (sendCell c (i + 1)) 0 0 ∗ dutyTok ER (recvCell (dn c (i + 1)) (i + 1)) 0 0))
      ⊢ WP c (upTo (sendR c) 7) (fun _ => iprop((records m ∗ ow c 7 7 0) ∗ bigSep (Finset.range 7) fun i => cred (tallyAt (sendCell c (i + 1)) () NB))) := by
  refine wp_upTo (fun i => iprop(records m ∗ ow c 7 i 0)) (fun i => iprop(owns (c : Thread nD τ) (bRow (dn c (i + 1))) fullShare (rows m c (dn c (i + 1)))
        ∗ handOver c i ∗ dutyTok ER (sendCell c (i + 1)) 0 0 ∗ dutyTok ER (recvCell (dn c (i + 1)) (i + 1)) 0 0)) (fun i => cred (tallyAt (sendCell c (i + 1)) () NB)) 7 (fun i hi => ?_)
  unfold handOver
  iintro ⟨⟨#HR, HO⟩, Hb, ⟨Hs, -⟩, Hd, Hd'⟩
  iapply (last_ (send m c hi)) $$ [HO Hb Hs Hd Hd']
  · isplitr; · iapply (rec_send m c hi); iexact HR
    isplitr; · iapply (rec_recv m (dn c (i + 1)) hi); iexact HR
    isplitl [Hb]; · iexact Hb
    isplitl [Hs]; · iexact Hs
    isplitl [HO]; · iexact HO
    isplitl [Hd] <;> iassumption
  iintro %_ ⟨HO, Hc⟩
  isplitr [Hc]; swap; · iexact Hc
  isplitr; · iexact HR
  iexact HO

/-- The wait for the sends. -/
theorem run_departures (c : Dev nD) :
    iprop((records m ∗ ow c 7 7 0) ∗ bigSep (Finset.range 7) fun i => iprop(cred (tallyAt (sendCell c (i + 1)) () NB) ∗ atPos ER (sendCell c (i + 1)) 0 ∅ 0))
      ⊢ WP c (upTo (waitS c) 7) (fun _ => iprop((records m ∗ ow c 7 7 0) ∗ bigSep (Finset.range 7) fun i =>
          iprop(semVal (sendCell c (i + 1)) 0 ∗ owns (c : Thread nD τ) (bRow (dn c (i + 1))) fullShare (rows m c (dn c (i + 1)))))) := by
  refine wp_upTo (fun _ => iprop(records m ∗ ow c 7 7 0)) (fun i => iprop(cred (tallyAt (sendCell c (i + 1)) () NB) ∗ atPos ER (sendCell c (i + 1)) 0 ∅ 0))
    (fun i => iprop(semVal (sendCell c (i + 1)) 0 ∗ owns (c : Thread nD τ) (bRow (dn c (i + 1))) fullShare (rows m c (dn c (i + 1))))) 7 (fun i hi => ?_)
  iintro ⟨⟨#HR, HO⟩, Hc, Hat⟩
  iapply (last_ (wait_send m c hi)) $$ [HO Hc Hat]
  · isplitr; · iapply (rec_send m c hi); iexact HR
    isplitr; · iapply (rec_lev m); iexact HR
    isplitl [Hc]; · iexact Hc
    isplitl [HO] <;> iassumption
  iintro %_ ⟨HO, Hz, Hb⟩
  isplitr [Hz Hb]
  · isplitr; · iexact HR
    iexact HO
  isplitl [Hz] <;> iassumption

/-- The seven closing signals. -/
theorem run_closing (c : Dev nD) :
    iprop((records m ∗ ow c 7 7 0) ∗ bigSep (Finset.range 7) fun i => dutyTok ER (endCell (up c (i + 1))) 0 i)
      ⊢ WP c (upTo (fun i => semSignalWord (devE c i) endS 1#32) 7) (fun _ => iprop((records m ∗ ow c 7 7 7) ∗ bigSep (Finset.range 7) fun _ => iprop(emp))) := by
  refine wp_upTo (fun i => iprop(records m ∗ ow c 7 7 i)) (fun i => dutyTok ER (endCell (up c (i + 1))) 0 i) (fun _ => iprop(emp)) 7 (fun i hi => ?_)
  iintro ⟨⟨#HR, HO⟩, Hd⟩
  iapply (last_ (signal_end m c hi)) $$ [HO Hd]
  · isplitr; · iapply (rec_end m (up c (i + 1))); iexact HR
    isplitl [HO] <;> iassumption
  iintro %_ HO
  isplitl
  · isplitr; · iexact HR
    iexact HO
  iempintro

/-- The four chunks and the waits for the last two of them. -/
theorem run_chunks (c : Dev nD) :
    iprop(records m ∗ work m c 0 ∗ (bigSep (Finset.range 2) fun k => oFree c k) ∗ bigSep (Finset.range 4) fun h => some' c (oChunk h))
      ⊢ WP c (upTo (chunk c) 4) (fun _ => iprop(records m ∗ work m c 32 ∗ oFly m c 2 ∗ oFly m c 3 ∗ oDone m c 0 ∗ oDone m c 1)) := by
  iintro ⟨#HR, Hw, Ho, Hc⟩
  ihave Ho' := (two (fun k => oFree c k)).1 $$ Ho
  icases Ho' with ⟨Ho0, Ho1⟩
  iapply (last_ (wp_upTo (fun h => iprop(records m ∗ work m c (8 * h) ∗ oPrev m c h ∗ oPrev m c (h + 1))) (fun h => some' c (oChunk h)) (oGain m c) 4
    fun h hh => run_chunk m c hh)) $$ [Hw Ho0 Ho1 Hc]
  · isplitr [Hc]; swap; · iexact Hc
    isplitr; · iexact HR
    isplitl [Hw]; · iexact Hw
    rw [show oPrev m c 0 = oFree c 0 from rfl, show oPrev m c (0 + 1) = oFree c 1 from rfl]
    isplitl [Ho0]; · iexact Ho0
    iexact Ho1
  iintro %_ ⟨⟨-, Hw, H2, H3⟩, Hg⟩
  ihave Hg' := (four (oGain m c)).1 $$ Hg
  icases Hg' with ⟨-, -, Hg0, Hg1⟩
  isplitr; · iexact HR
  isplitl [Hw]; · iexact Hw
  isplitl [H2]; · iapply (prev_fly m c _); iexact H2
  isplitl [H3]; · iapply (prev_fly m c _); iexact H3
  isplitl [Hg0]; · iapply (gain_done m c _); iexact Hg0
  iapply (gain_done m c _); iexact Hg1

/-! ## The body -/

/-- What the core starts from, but for the result. -/
def before (c : Dev nD) : sProp 𝕄 := iprop(records m ∗ ow c 0 0 0 ∗ toks c ∗ places c ∗ credits c ∗ copySems c ∗ buffers m c)
/-- What it ends with. -/
def after (c : Dev nD) : sProp 𝕄 := iprop(ow c 7 7 7 ∗ spent c ∗ copySems c ∗ buffers m c ∗ result c (outAt m c))

/-- The body of device `c`: from what the core starts with, whatever the result's contents, it ends with the result at `outAt`. -/
theorem run_bodyOf (c : Dev nD) (X : S512x8192.Idx → Elt F .f32) :
    iprop(before m c ∗ result c X) ⊢ WP c (bodyOf c) (fun _ => after m c) := by
  unfold before toks places credits copySems buffers bodyOf
  simp only [range_sep]
  iintro ⟨⟨#HR, HO, ⟨Tb, Te, Ts, Tr⟩, ⟨Pb, Pe, Ps, Pr⟩, ⟨Cb, Ce, Cr⟩, ⟨Zw, Zo⟩, Hx, ⟨Hb, Hcm, Hws, Hos⟩, Hw⟩, Hout⟩
  -- the slots
  ihave Hw' := (wts_shares m c).1 $$ Hw
  icases Hw' with ⟨Hwk, Hwt⟩
  ihave Hwf := (wfree_split m c) $$ [Hws Zw Hwt]
  · isplitl [Hws]; · iexact Hws
    isplitl [Zw] <;> iassumption
  ihave Hwf' := (three (fun k => wFree m c k)).1 $$ Hwf
  icases Hwf' with ⟨W0, W1, W2⟩
  ihave Hof := (ofree_split c) $$ [Hos Zo]
  · isplitl [Hos] <;> iassumption
  ihave Hcs := (comm_split c) $$ Hcm
  icases Hcs with ⟨Hc0, Hcs⟩
  ihave Hch := (out_split c X) $$ Hout
  -- the first two tiles
  iapply (then_ (start_w m c 0)) $$ W0
  iintro %_ W0
  iapply (then_ (start_w m c 1)) $$ W1
  iintro %_ W1
  -- the shard
  iapply (then_ (run_convert m c)) $$ [Hx Hb]
  · isplitl [Hx] <;> iassumption
  iintro %_ ⟨Hx, Hb⟩
  ihave Hb' := (shard_split m c) $$ Hb
  icases Hb' with ⟨Hown, Hrows⟩
  -- the barrier
  iapply (then_ (run_signals m c)) $$ [HO Tb Hcs]
  · simp only [range_sep]
    isplitl [HO]
    · isplitr; · iexact HR
      iexact HO
    isplitl [Tb] <;> iassumption
  iintro %_ ⟨⟨-, HO⟩, -⟩
  iapply (then_ (wait_bar m c)) $$ [HO Cb Pb]
  · isplitr; · iapply (rec_bar m c); iexact HR
    isplitr; · iapply (rec_lev m); iexact HR
    isplitl [Cb]; · iexact Cb
    isplitl [HO] <;> iassumption
  iintro %_ ⟨HO, Zb, Hho⟩
  -- the sends
  iapply (then_ (run_sends m c)) $$ [HO Hrows Hho Ts Tr]
  · simp only [range_sep]
    isplitl [HO]
    · isplitr; · iexact HR
      iexact HO
    isplitl [Hrows]; · iexact Hrows
    isplitl [Hho]; · iexact Hho
    isplitl [Ts] <;> iassumption
  iintro %_ ⟨⟨-, HO⟩, Cs⟩
  -- the chunks
  iapply (then_ (run_chunks m c)) $$ [HO W0 W1 W2 Cr Pr Hown Hof Hch]
  · isplitr; · iexact HR
    isplitr [Hof Hch]
    · unfold work ring
      isplitl [HO]; · iexact HO
      isplitl [W0 W1 W2]
      · isplitl [W0]; · iapply (wAt_fly m c (by decide)); iexact W0
        isplitl [W1]; · iapply (wAt_fly m c (by decide)); iexact W1
        iexact W2
      isplitr [Hown]; swap; · iexact Hown
      rw [comm_first]
      unfold pending
      simp only [range_sep]
      isplitl [Cr] <;> iassumption
    isplitl [Hof] <;> iassumption
  iintro %_ ⟨-, Hwork, O2, O3, D0, D1⟩
  unfold work ring
  rw [comm_last]
  icases Hwork with ⟨HO, ⟨W2, W0, W1⟩, Hld, Hown⟩
  iapply (then_ (wait_o m c 2)) $$ [HO O2]
  · isplitl [O2]; · iexact O2
    isplitr; · iapply (rec_lev m); iexact HR
    iexact HO
  iintro %_ ⟨HO, F0, D2⟩
  iapply (then_ (wait_o m c 3)) $$ [HO O3]
  · isplitl [O3]; · iexact O3
    isplitr; · iapply (rec_lev m); iexact HR
    iexact HO
  iintro %_ ⟨HO, F1, D3⟩
  -- the sends waited for
  iapply (then_ (run_departures m c)) $$ [HO Cs Ps]
  · simp only [range_sep]
    isplitl [HO]
    · isplitr; · iexact HR
      iexact HO
    isplitl [Cs] <;> iassumption
  simp only [range_sep]
  iintro %_ ⟨⟨-, HO⟩, Zs, Hrows⟩
  -- the closing rendezvous
  iapply (then_ (run_closing m c)) $$ [HO Te]
  · isplitl [HO]
    · isplitr; · iexact HR
      iexact HO
    iexact Te
  iintro %_ ⟨⟨-, HO⟩, -⟩
  iapply (last_ (wait_end m c)) $$ [HO Ce Pe]
  · isplitr; · iapply (rec_end m c); iexact HR
    isplitr; · iapply (rec_lev m); iexact HR
    isplitl [Ce]; · iexact Ce
    isplitl [HO] <;> iassumption
  iintro %_ ⟨HO, Ze⟩
  -- the buffers whole again
  ihave Hwf := (three (fun k => wFree m c k)).2 $$ [W0 W1 W2]
  · isplitl [W0]; · iapply (wAt_free m c (t := 33) (by decide) rfl); iexact W0
    isplitl [W1]; · iexact W1
    iapply (wAt_free m c (t := 32) (by decide) rfl); iexact W2
  ihave Hwf' := (wfree_join m c) $$ Hwf
  icases Hwf' with ⟨Hws, Zw, Hwt⟩
  ihave Hw := (wts_shares m c).2 $$ [Hwk Hwt]
  · isplitl [Hwk] <;> iassumption
  ihave Hof := (two (fun k => oFree c k)).2 $$ [F0 F1]
  · isplitl [F0]; · iexact F0
    iexact F1
  ihave Hof' := (ofree_join c) $$ Hof
  icases Hof' with ⟨Hos, Zo⟩
  unfold landed
  simp only [range_sep]
  icases Hld with ⟨Hsl, Zr⟩
  ihave Hcm := (comm_join c) $$ [Hc0 Hsl]
  · isplitl [Hc0]; · iexact Hc0
    iapply (range_mono 7 (fun i _ => (by iintro H; iexists _; iexact H :
      owns (c : Thread nD τ) (cSlot (i + 1)) fullShare (lhs m c (i + 1)) ⊢ (some' c (cSlot (i + 1)) : sProp 𝕄))))
    iexact Hsl
  ihave Hb := (shard_join m c) $$ [Hown Hrows]
  · isplitl [Hown] <;> iassumption
  ihave Hdn := (four (fun h => oDone m c h)).2 $$ [D0 D1 D2 D3]
  · isplitl [D0]; · iexact D0
    isplitl [D1]; · iexact D1
    isplitl [D2] <;> iassumption
  ihave Hout := (out_join m c) $$ Hdn
  unfold after spent copySems buffers
  simp only [range_sep]
  isplitl [HO]; · iexact HO
  isplitl [Zb Ze Zs Zr]
  · isplitl [Zb]; · iexact Zb
    isplitl [Ze]; · iexact Ze
    isplitl [Zs] <;> iassumption
  isplitl [Zw Zo]
  · isplitl [Zw] <;> iassumption
  isplitr [Hout]; swap; · iexact Hout
  isplitl [Hx]; · iexact Hx
  isplitr [Hw]; swap; · iexact Hw
  isplitl [Hb]; · iexact Hb
  isplitl [Hcm]; · iexact Hcm
  isplitl [Hws] <;> iassumption

/-- A core reads its own device's number. -/
theorem device_id (c : Dev nD) (P : sProp 𝕄) : P ⊢ WP c (Prog.lift .deviceId) (fun d => iprop(⌜d = c⌝ ∗ P)) := by
  unfold WP
  rw [show (Prog.lift .deviceId : ℙ (Dev nD)) = .op .deviceId .ret from rfl, wp_deviceId, wp_ret]
  iintro H
  imodintro
  isplitr; · ipureintro; rfl
  iexact H

/-- The body reads which device it is on and runs that device's body. -/
theorem run_body (c : Dev nD) (X : S512x8192.Idx → Elt F .f32) :
    iprop(before m c ∗ result c X) ⊢ WP c body (fun _ => after m c) := by
  unfold body
  iintro H
  iapply (then_ (device_id c iprop(before m c ∗ result c X))) $$ H
  iintro %d ⟨%hd, H⟩
  subst hd
  iapply (run_bodyOf m d X)
  iexact H

end Cert.KernelIdeal.Own

end
-- ==== Proof.Deal.lean ====
/- What the launch deals to each device: its cells under the schedule, the tokens of the duties it pays, the credit of those it
   waits for. -/
module

public import proofs.«01_k».proof.Proof.Body

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Lists of cells, tokens and semaphores -/

/-- A range in two parts. -/
theorem range_split (b a : ℕ) (Φ : ℕ → sProp 𝕄) :
    bigSep (Finset.range (b + a)) Φ = iprop(bigSep (Finset.range b) Φ ∗ bigSep (Finset.range a) fun i => Φ (b + i)) := by
  induction a with
  | zero =>
    rw [range_none, Nat.add_zero]
    have h : bigSep (Finset.range b) Φ ⊣⊢ iprop(bigSep (Finset.range b) Φ ∗ emp) := by
      constructor
      · iintro H
        isplitl [H]; · iexact H
        iempintro
      · iintro ⟨H, -⟩; iexact H
    exact BI.equiv_iff.mp ⟨h.1, h.2⟩
  | succ a ih =>
    rw [← Nat.add_assoc, range_last, ih, range_last (fun i => Φ (b + i))]
    have h : iprop(Φ (b + a) ∗ bigSep (Finset.range b) Φ ∗ bigSep (Finset.range a) fun i => Φ (b + i))
        ⊣⊢ iprop(bigSep (Finset.range b) Φ ∗ Φ (b + a) ∗ bigSep (Finset.range a) fun i => Φ (b + i)) := by
      constructor <;> (iintro ⟨H, H', H''⟩; isplitl [H']; (· iexact H'); isplitl [H] <;> iassumption)
    exact BI.equiv_iff.mp ⟨h.1, h.2⟩

/-- The semaphores of the schedule, numbered: the opening barrier, the closing rendezvous, seven departures, seven arrivals. -/
def semAt (n : ℕ) : SemLoc sig :=
  if n = 0 then .reg barS else if n = 1 then .reg endS else if n < 9 then .dma (sendS (n - 1)) else .dma (recvS (n - 8))

/-- No semaphore has two numbers. -/
theorem semAt_inj : Function.Injective fun k : Fin 16 => semAt k.val :=
  fun a b h => (by decide +kernel : ∀ a b : Fin 16, semAt a.val = semAt b.val → a = b) a b h

/-- A conjunction over them, by kind. -/
theorem over_sems (Φ : SemLoc sig → sProp 𝕄) :
    bigSep Finset.univ (fun k : Fin 16 => Φ (semAt k.val))
      = iprop(Φ (.reg barS) ∗ Φ (.reg endS) ∗ (bigSep (Finset.range 7) fun i => Φ (.dma (sendS (i + 1)))) ∗ bigSep (Finset.range 7) fun i => Φ (.dma (recvS (i + 1)))) := by
  rw [range_fin 16 fun n => Φ (semAt n), range_first, range_first, range_split 7 7]
  have h1 : bigSep (Finset.range 7) (fun i => Φ (semAt (i + 1 + 1))) = bigSep (Finset.range 7) fun i => Φ (.dma (sendS (i + 1))) :=
    bigSep_congr fun i hi => by
      have hi := Finset.mem_range.mp hi
      unfold semAt; rw [if_neg (by omega), if_neg (by omega), if_pos (by omega)]; rfl
  have h2 : bigSep (Finset.range 7) (fun i => Φ (semAt (7 + i + 1 + 1))) = bigSep (Finset.range 7) fun i => Φ (.dma (recvS (i + 1))) :=
    bigSep_congr fun i hi => by
      unfold semAt; rw [if_neg (by omega), if_neg (by omega), if_neg (by omega), show 7 + i + 1 + 1 - 8 = i + 1 by omega]
  rw [h1, h2]; rfl

/-- The duties of a device's own cells, numbered: seven of each of four kinds. -/
def dutyAt (n : ℕ) : SemLoc sig × ℕ × ℕ :=
  if n < 7 then (.reg barS, 0, n) else if n < 14 then (.reg endS, 0, n - 7) else if n < 21 then (.dma (sendS (n - 13)), 0, 0)
    else (.dma (recvS (n - 20)), 0, 0)

/-- No duty has two numbers. -/
theorem dutyAt_inj : Function.Injective fun k : Fin 28 => dutyAt k.val :=
  fun a b h => (by decide +kernel : ∀ a b : Fin 28, dutyAt a.val = dutyAt b.val → a = b) a b h

/-- A conjunction over the duties, by kind. -/
theorem over_duties (Φ : SemLoc sig × ℕ × ℕ → sProp 𝕄) :
    bigSep Finset.univ (fun k : Fin 28 => Φ (dutyAt k.val))
      = iprop((bigSep (Finset.range 7) fun i => Φ (.reg barS, 0, i)) ∗ (bigSep (Finset.range 7) fun i => Φ (.reg endS, 0, i))
        ∗ (bigSep (Finset.range 7) fun i => Φ (.dma (sendS (i + 1)), 0, 0)) ∗ bigSep (Finset.range 7) fun i => Φ (.dma (recvS (i + 1)), 0, 0)) := by
  rw [range_fin 28 fun n => Φ (dutyAt n), range_split 7 21, range_split 7 14, range_split 7 7]
  have h0 : bigSep (Finset.range 7) (fun i => Φ (dutyAt i)) = bigSep (Finset.range 7) fun i => Φ (.reg barS, 0, i) :=
    bigSep_congr fun i hi => by
      have hi := Finset.mem_range.mp hi
      unfold dutyAt; rw [if_pos hi]
  have h1 : bigSep (Finset.range 7) (fun i => Φ (dutyAt (7 + i))) = bigSep (Finset.range 7) fun i => Φ (.reg endS, 0, i) :=
    bigSep_congr fun i hi => by
      have hi := Finset.mem_range.mp hi
      unfold dutyAt; rw [if_neg (by omega), if_pos (by omega), show 7 + i - 7 = i by omega]
  have h2 : bigSep (Finset.range 7) (fun i => Φ (dutyAt (7 + (7 + i)))) = bigSep (Finset.range 7) fun i => Φ (.dma (sendS (i + 1)), 0, 0) :=
    bigSep_congr fun i hi => by
      have hi := Finset.mem_range.mp hi
      unfold dutyAt; rw [if_neg (by omega), if_neg (by omega), if_pos (by omega), show 7 + (7 + i) - 13 = i + 1 by omega]
  have h3 : bigSep (Finset.range 7) (fun i => Φ (dutyAt (7 + (7 + (7 + i))))) = bigSep (Finset.range 7) fun i => Φ (.dma (recvS (i + 1)), 0, 0) :=
    bigSep_congr fun i hi => by
      unfold dutyAt; rw [if_neg (by omega), if_neg (by omega), if_neg (by omega), show 7 + (7 + (7 + i)) - 20 = i + 1 by omega]
  rw [h0, h1, h2, h3]

/-- The kernel's own semaphores: the closing rendezvous and the copies' twenty-one. -/
def ownAt (n : ℕ) : SemLoc sig := if n = 0 then .reg endS else .dma (dS n)
def osem (k : Fin 22) : SemLoc sig := ownAt k.val

/-- They are the kernel's scoped semaphores, each once. -/
theorem ownSemFacts : Pipeline.OwnSemFacts cfg0.spec osem := by decide +kernel

abbrev ownSems (c : Dev nD) : sProp 𝕄 := Pipeline.ownSems0 (Ix := Unit) (Name := ℕ) (U := UU) (Lvl := ℕ) (Val := Elt F) (τ := τ) osem c

/-- The two semaphores nothing uses, at zero. -/
def idle (c : Dev nD) : sProp 𝕄 := iprop(semVal (sendCell c 0) 0 ∗ semVal (recvCell c 0) 0)

/-- A conjunction over the kernel's own semaphores, by kind. -/
theorem over_own (Φ : SemLoc sig → sProp 𝕄) :
    bigSep Finset.univ (fun k : Fin 22 => Φ (osem k))
      = iprop(Φ (.reg endS) ∗ Φ (.dma (sendS 0)) ∗ (bigSep (Finset.range 7) fun i => Φ (.dma (sendS (i + 1)))) ∗ Φ (.dma (recvS 0))
        ∗ (bigSep (Finset.range 7) fun i => Φ (.dma (recvS (i + 1)))) ∗ (bigSep (Finset.range 3) fun k => Φ (.dma (wS k)))
        ∗ bigSep (Finset.range 2) fun k => Φ (.dma (oS k))) := by
  show bigSep Finset.univ (fun k : Fin 22 => Φ (ownAt k.val)) = _
  have hd (n : ℕ) (g f : ℕ → ℕ) (h : ∀ i, g i + 1 = f i) :
      bigSep (Finset.range n) (fun i => Φ (ownAt (g i + 1))) = bigSep (Finset.range n) fun i => Φ (.dma (dS (f i))) :=
    bigSep_congr fun i _ => by unfold ownAt; rw [if_neg (by omega), h i]
  rw [range_fin 22 fun n => Φ (ownAt n), range_first, range_first, range_split 7 13, range_first _ 12, range_split 7 5, range_split 3 2,
    hd 7 (fun i => i + 1) (fun i => 1 + (i + 1)) (fun i => by omega),
    hd 7 (fun i => 7 + (i + 1) + 1) (fun i => 9 + (i + 1)) (fun i => by omega),
    hd 3 (fun i => 7 + (7 + i + 1) + 1) (fun i => 17 + i) (fun i => by omega),
    hd 2 (fun i => 7 + (7 + (3 + i) + 1) + 1) (fun i => 20 + i) (fun i => by omega)]
  rfl

/-- The kernel's own semaphores at zero, by kind. -/
theorem own_sems (c : Dev nD) :
    ownSems c = iprop(semVal (endCell c) 0 ∗ semVal (sendCell c 0) 0 ∗ (bigSep (Finset.range 7) fun i => semVal (sendCell c (i + 1)) 0) ∗ semVal (recvCell c 0) 0
      ∗ (bigSep (Finset.range 7) fun i => semVal (recvCell c (i + 1)) 0) ∗ (bigSep (Finset.range 3) fun k => semVal ((c : Thread nD τ), .dma (wS k)) 0)
      ∗ bigSep (Finset.range 2) fun k => semVal ((c : Thread nD τ), .dma (oS k)) 0 : sProp 𝕄) :=
  over_own fun sm => semVal ((c : Thread nD τ), sm) 0

/-- The launch's one semaphore besides is the opening barrier's. -/
theorem outer_sems (c : Dev nD) : (unscopedSems0 c : sProp 𝕄) = semVal (barCell c) 0 := by
  unfold unscopedSems0; rw [bigSep_eq_bigSepL_of_eq [SemLoc.reg barS] (by decide) (by decide)]; rfl

/-- All of a device's semaphores at zero: the schedule's and the others. -/
theorem sems_split (c : Dev nD) :
    iprop(ownSems c ∗ unscopedSems0 c) ⊢ iprop((bigSep Finset.univ fun k : Fin 16 => (semVal ((c : Thread nD τ), semAt k.val) 0 : sProp 𝕄)) ∗ idle c ∗ copySems c) := by
  rw [own_sems, outer_sems, over_sems fun sm => semVal ((c : Thread nD τ), sm) 0]
  unfold idle copySems
  iintro ⟨⟨He, Hi, Hs, Hj, Hr, Hw, Ho⟩, Hb⟩
  isplitl [He Hs Hr Hb]
  · isplitl [Hb]; · iexact Hb
    isplitl [He]; · iexact He
    isplitl [Hs]; · iexact Hs
    iexact Hr
  isplitl [Hi Hj]
  · isplitl [Hi]; · iexact Hi
    iexact Hj
  isplitl [Hw]; · iexact Hw
  iexact Ho
/-- At the end all of a device's semaphores are at zero again. -/
theorem sems_join (c : Dev nD) : iprop(spent c ∗ idle c ∗ copySems c) ⊢ iprop(unscopedSems0 c ∗ ownSems (F := F) c) := by
  rw [own_sems, outer_sems]
  unfold spent idle copySems
  simp only [range_sep]
  iintro ⟨⟨Hb, He, Hs, Hr⟩, ⟨Hi, Hj⟩, Hw, Ho⟩
  isplitl [Hb]; · iexact Hb
  isplitl [He]; · iexact He
  isplitl [Hi]; · iexact Hi
  isplitl [Hs]; · iexact Hs
  isplitl [Hj]; · iexact Hj
  isplitl [Hr]; · iexact Hr
  isplitl [Hw]; · iexact Hw
  iexact Ho

/-! ## The launch's ghost state -/

abbrev cellAt (x : Dev nD × Fin 16) : GSem nD τ sig := ((x.1 : Thread nD τ), semAt x.2.val)
/-- The cells of the schedule are distinct. -/
theorem cellAt_inj : Function.Injective cellAt := fun ⟨c, k⟩ ⟨c', k'⟩ h => by
  have h1 : c = c' := congrArg (fun g : GSem nD τ sig => g.1.1) h
  have h2 : k = k' := semAt_inj (congrArg Prod.snd h)
  rw [h1, h2]
abbrev tokAt (x : Dev nD × Fin 28) : GSem nD τ sig × ℕ × ℕ := (((x.1 : Thread nD τ), (dutyAt x.2.val).1), (dutyAt x.2.val).2)
/-- So are the duties. -/
theorem tokAt_inj : Function.Injective tokAt := fun ⟨c, k⟩ ⟨c', k'⟩ h => by
  have h1 : c = c' := congrArg (fun x : GSem nD τ sig × ℕ × ℕ => x.1.1.1) h
  have h2 : k = k' := dutyAt_inj (congrArg (fun x : GSem nD τ sig × ℕ × ℕ => (x.1.2, x.2)) h)
  rw [h1, h2]

def cells : Finset (GSem nD τ sig) := Finset.univ.map ⟨cellAt, cellAt_inj⟩
def tokens : Finset (GSem nD τ sig × ℕ × ℕ) := Finset.univ.map ⟨tokAt, tokAt_inj⟩

def u₀ : UU := (initOf (Pipeline.cells cfgs cellOf_inj) (Pipeline.launchToks cfgs cellOf_inj), (initOf cells tokens, 1))

/-- The duty tokens of device `c`'s own cells. -/
def ownToks (c : Dev nD) : sProp 𝕄 :=
  iprop((bigSep (Finset.range 7) fun i => dutyTok ER (barCell c) 0 i) ∗ (bigSep (Finset.range 7) fun i => dutyTok ER (endCell c) 0 i)
    ∗ (bigSep (Finset.range 7) fun i => dutyTok ER (sendCell c (i + 1)) 0 0) ∗ bigSep (Finset.range 7) fun i => dutyTok ER (recvCell c (i + 1)) 0 0)

/-- What the launch's ghost state deals device `c`, -/
def dealt (c : Dev nD) : sProp 𝕄 :=
  iprop((bigSep Finset.univ fun k : Fin 16 => roundState ER (rd m) (cellAt (c, k)) 0)
    ∗ ((bigSep Finset.univ fun k : Fin 16 => atPos ER (cellAt (c, k)) 0 ∅ 0) ∗ bigSep Finset.univ fun k : Fin 16 => reached ER (cellAt (c, k)) 0) ∗ ownToks c)

/-- The launch's ghost state deals every device its part. -/
theorem fund : BI.own (ER (initOf cells tokens)) ⊢ (|==> bigSep Finset.univ (dealt m) : sProp 𝕄) := by
  have hX (Φ : GSem nD τ sig → sProp 𝕄) : bigSep cells Φ = bigSep Finset.univ fun c : Dev nD => bigSep Finset.univ fun k : Fin 16 => Φ (cellAt (c, k)) := by
    unfold cells; rw [BI.bigSep_map, bigSep_univ_prod]; rfl
  have hT : bigSep tokens (fun x => (dutyTok ER x.1 x.2.1 x.2.2 : sProp 𝕄)) = bigSep Finset.univ fun c : Dev nD => ownToks c := by
    unfold tokens; rw [BI.bigSep_map, bigSep_univ_prod]
    exact bigSep_congr fun c _ => (over_duties fun x => dutyTok ER ((c : Thread nD τ), x.1) x.2.1 x.2.2)
  iintro HX
  imod (Rounds.fund ER (rd m) cells tokens) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The cells under the schedule -/

/-- That device `d`'s cells are under the schedule. -/
def known (d : Dev nD) : sProp 𝕄 :=
  iprop(knows m (barCell d) ∗ knows m (endCell d) ∗ bigSep (Finset.range 7) fun i => iprop(knows m (sendCell d (i + 1)) ∗ knows m (recvCell d (i + 1))))
instance known_persistent (d : Dev nD) : BI.Persistent (known m d) := by unfold known; infer_instance

/-- A device puts its cells, at zero, under the schedule, and keeps its tokens, its places and the other semaphores. -/
theorem alloc (c : Dev nD) :
    iprop(ownSems c ∗ unscopedSems0 c ∗ dealt m c) ⊢ |={Set.univ}=> iprop(known m c ∗ ownToks c ∗ places c ∗ idle c ∗ copySems c) := by
  unfold dealt
  iintro ⟨Hos, Hus, Hst, ⟨Hat, Hre⟩, Htok⟩
  ihave Hv := (sems_split (F := F) c) $$ [Hos Hus]
  · isplitl [Hos] <;> iassumption
  icases Hv with ⟨Hv, Hid, Hcs⟩
  imod (show iprop((bigSep Finset.univ fun k : Fin 16 => semVal (cellAt (c, k)) 0) ∗ bigSep Finset.univ fun k : Fin 16 => roundState ER (rd m) (cellAt (c, k)) 0)
      ⊢ (|={Set.univ}=> bigSep Finset.univ fun k : Fin 16 => iprop(∃ κ : ℕ, cellInv ER (rd m) κ (cellAt (c, k))) : sProp 𝕄) from by
        rw [← bigSep_sep']
        exact (bigSep_mono fun k _ => (Rounds.body_intro ER (rd m) (cellAt (c, k))).trans inv_alloc).trans (bigSep_fupd _ _)) $$ [Hv Hst] with Hinv
  · isplitl [Hv] <;> iassumption
  imodintro
  isplitl [Hinv Hre]
  · ihave Hk := (show iprop((bigSep Finset.univ fun k : Fin 16 => iprop(∃ κ : ℕ, cellInv ER (rd m) κ (cellAt (c, k)))) ∗ bigSep Finset.univ fun k : Fin 16 => reached ER (cellAt (c, k)) 0)
        ⊢ known m c from by
      rw [← bigSep_sep']
      refine (Entails.of_eq (over_sems fun sm => knows m ((c : Thread nD τ), sm))).trans ?_
      unfold known; simp only [range_sep]
      iintro H; iexact H) $$ [Hinv Hre]
    · isplitl [Hinv] <;> iassumption
    iexact Hk
  isplitl [Htok]; · iexact Htok
  isplitl [Hat]
  · ihave Hp := (show (bigSep Finset.univ fun k : Fin 16 => (atPos ER (cellAt (c, k)) 0 ∅ 0 : sProp 𝕄)) ⊢ places c from by
      refine (Entails.of_eq (over_sems fun sm => atPos ER ((c : Thread nD τ), sm) 0 ∅ 0)).trans ?_
      unfold places; simp only [range_sep]
      iintro H; iexact H) $$ Hat
    iexact Hp
  isplitl [Hid] <;> iassumption

/-- What a device starts from of these. -/
def share (c : Dev nD) : sProp 𝕄 :=
  iprop((bigSep Finset.univ fun d : Dev nD => known m d) ∗ toks c ∗ places c ∗ idle c ∗ copySems c)

/-- Every device's parts dealt to the devices they come from. -/
theorem deal_around (Φ : Dev nD → ℕ → sProp 𝕄) (f : Dev nD → ℕ → Dev nD) (hf : Function.Bijective fun x : Dev nD × Fin 7 => (f x.1 (x.2.val + 1), x.2)) :
    bigSep Finset.univ (fun c : Dev nD => bigSep (Finset.range 7) fun i => Φ c i)
      = bigSep Finset.univ fun c : Dev nD => bigSep (Finset.range 7) fun i => Φ (f c (i + 1)) i := by
  have h (Ψ : Dev nD → ℕ → sProp 𝕄) : bigSep Finset.univ (fun c : Dev nD => bigSep (Finset.range 7) fun i => Ψ c i)
      = bigSep Finset.univ fun x : Dev nD × Fin 7 => Ψ x.1 x.2.val := by
    rw [bigSep_univ_prod]
    exact bigSep_congr fun c _ => (range_fin 7 (Ψ c)).symm
  rw [h, h, bigSep_univ_equiv (Equiv.ofBijective _ hf)]
  rfl

/-- At each distance the devices that number of places on are all the devices, -/
theorem up_bij : Function.Bijective fun x : Dev nD × Fin 7 => (up x.1 (x.2.val + 1), x.2) := by decide +kernel
/-- and so are those that number of places back. -/
theorem dn_bij : Function.Bijective fun x : Dev nD × Fin 7 => (dn x.1 (x.2.val + 1), x.2) := by decide +kernel

/-- The tokens of everyone's own cells are the tokens everyone pays with. -/
theorem toks_around : (bigSep Finset.univ fun c : Dev nD => (ownToks c : sProp 𝕄)) ⊢ bigSep Finset.univ fun c : Dev nD => toks c := by
  unfold ownToks toks
  simp only [range_sep]
  rw [bigSep_sep', bigSep_sep', bigSep_sep', bigSep_sep', bigSep_sep', bigSep_sep',
    deal_around (fun c i => dutyTok ER (barCell c) 0 i) up up_bij, deal_around (fun c i => dutyTok ER (endCell c) 0 i) up up_bij,
    deal_around (fun c i => dutyTok ER (recvCell c (i + 1)) 0 0) dn dn_bij]

/-- What the devices have set up, dealt out so that each has its share of it. -/
theorem regroup :
    (bigSep Finset.univ fun c : Dev nD => iprop(known m c ∗ ownToks c ∗ places c ∗ idle c ∗ copySems c) : sProp 𝕄) ⊢ bigSep Finset.univ (share m) := by
  rw [bigSep_sep', bigSep_sep']
  iintro ⟨#HK, Htok, Hp⟩
  ihave Ht := (toks_around (F := F)) $$ Htok
  iapply (Entails.of_eq (bigSep_sep' Finset.univ (fun _ : Dev nD => bigSep Finset.univ (known m)) fun c => iprop(toks c ∗ places c ∗ idle c ∗ copySems c)).symm)
  rw [bigSep_sep' Finset.univ toks fun c => iprop(places c ∗ idle c ∗ copySems c)]
  isplitr
  · iapply (BI.bigSep_of_persistent Finset.univ iprop(bigSep Finset.univ fun d : Dev nD => known m d)); iexact HK
  isplitl [Ht] <;> iassumption

/-- All devices' semaphores and ghost state, put under the schedule and dealt. -/
theorem glob : (bigSep Finset.univ fun c => iprop(ownSems c ∗ unscopedSems0 c ∗ dealt m c) : sProp 𝕄) ⊢ |={Set.univ}=> bigSep Finset.univ (share m) :=
  ((bigSep_mono fun c _ => alloc m c).trans (bigSep_fupd _ _)).trans (BI.fupd_mono (regroup m))

/-! ## The launch's credit -/

def O₀ (c : Dev nD) : CellTallies nD τ sig Unit := owing c 0 0 0

/-- A sum of tallies read at a cell. -/
theorem sum_at (S : Finset ℕ) (cell : ℕ → GSem nD τ sig) (k : ℕ) (g : GSem nD τ sig) :
    (∑ i ∈ S, tallyAt (cell i) () k : CellTallies nD τ sig Unit) g () = ∑ i ∈ S, if g = cell i then k else 0 := by
  rw [Finset.sum_apply, Finsupp.finset_sum_apply]
  exact Finset.sum_congr rfl fun i _ => by
    rw [tallyAt_apply]
    by_cases h : g = cell i
    · rw [if_pos ⟨h, rfl⟩, if_pos h]
    · rw [if_neg fun h' => h h'.1, if_neg h]

/-- What all devices owe a cell, if one of each device's three kinds of parts. -/
theorem owed_at (g : GSem nD τ sig) :
    ∑ d, O₀ d g () = (∑ d : Dev nD, ∑ i ∈ Finset.Ico 0 7, if g = barCell (up d (i + 1)) then 1 else 0)
      + (∑ d : Dev nD, ∑ i ∈ Finset.Ico 0 7, if g = recvCell (dn d (i + 1)) (i + 1) then NB else 0)
      + ∑ d : Dev nD, ∑ i ∈ Finset.Ico 0 7, if g = endCell (up d (i + 1)) then 1 else 0 := by
  rw [← Finset.sum_add_distrib, ← Finset.sum_add_distrib]
  refine Finset.sum_congr rfl fun d _ => ?_
  unfold O₀ owing
  rw [Pi.add_apply, Finsupp.add_apply, Pi.add_apply, Finsupp.add_apply, sum_at, sum_at, sum_at]

/-- No part of a sum is at a cell that none of its parts names. -/
theorem none_at {g : GSem nD τ sig} {cell : Dev nD → ℕ → GSem nD τ sig} {k : ℕ} (h : ∀ d i, i < 7 → g ≠ cell d i) :
    (∑ d : Dev nD, ∑ i ∈ Finset.Ico 0 7, if g = cell d i then k else 0) = 0 :=
  Finset.sum_eq_zero fun d _ => Finset.sum_eq_zero fun i hi => if_neg (h d i (Finset.mem_Ico.mp hi).2)

/-- The barrier's, the closing and the arrival semaphores are distinct. -/
theorem sems_ne (i : Fin 7) : SemLoc.reg barS ≠ (SemLoc.dma (recvS (i.val + 1)) : SemLoc sig) ∧ SemLoc.reg endS ≠ (SemLoc.dma (recvS (i.val + 1)) : SemLoc sig)
    ∧ SemLoc.reg barS ≠ (SemLoc.reg endS : SemLoc sig) ∧ ∀ j : Fin 7, SemLoc.dma (recvS (i.val + 1)) = (SemLoc.dma (recvS (j.val + 1)) : SemLoc sig) → i = j := by
  revert i; decide +kernel

/-- Cells of one semaphore are one only if they are on one device. -/
theorem cell_eq {c d : Dev nD} {s : SemLoc sig} : (((c : Thread nD τ), s) : GSem nD τ sig) = ((d : Thread nD τ), s) ↔ c = d :=
  ⟨fun h => congrArg (fun g : GSem nD τ sig => g.1.1) h, fun h => h ▸ rfl⟩

/-- Every device is the device some number of places on from seven others. -/
theorem count_up (c : Dev nD) : (∑ d : Dev nD, ∑ i ∈ Finset.Ico 0 7, if c = up d (i + 1) then 1 else 0) = 7 := by revert c; decide +kernel
/-- For each distance it is the device that many places back from one. -/
theorem count_dn (c : Dev nD) (j : Fin 7) : (∑ d : Dev nD, ∑ i ∈ Finset.Ico 0 7, if c = dn d (i + 1) ∧ j.val = i then 1 else 0) = 1 := by
  revert c j; decide +kernel

/-- Together the devices owe each barrier cell seven units, -/
theorem owed_bar (c : Dev nD) : ∑ d, O₀ d (barCell c) () = 7 := by
  rw [owed_at, none_at (cell := fun d i => recvCell (dn d (i + 1)) (i + 1)) (fun d i hi h => (sems_ne ⟨i, hi⟩).1 (congrArg Prod.snd h)),
    none_at (cell := fun d i => endCell (up d (i + 1))) (fun d i hi h => (sems_ne ⟨i, hi⟩).2.2.1 (congrArg Prod.snd h))]
  simp only [cell_eq, Nat.add_zero]
  exact count_up c
/-- each closing cell seven, -/
theorem owed_end (c : Dev nD) : ∑ d, O₀ d (endCell c) () = 7 := by
  rw [owed_at, none_at (cell := fun d i => recvCell (dn d (i + 1)) (i + 1)) (fun d i hi h => (sems_ne ⟨i, hi⟩).2.1 (congrArg Prod.snd h)),
    none_at (cell := fun d i => barCell (up d (i + 1))) (fun d i hi h => (sems_ne ⟨i, hi⟩).2.2.1 (congrArg Prod.snd h).symm)]
  simp only [cell_eq, Nat.zero_add]
  exact count_up c
/-- and each arrival cell the credit of one block. -/
theorem owed_recv (c : Dev nD) (j : Fin 7) : ∑ d, O₀ d (recvCell c (j.val + 1)) () = NB := by
  rw [owed_at, none_at (cell := fun d i => barCell (up d (i + 1))) (fun d i hi h => (sems_ne j).1 (congrArg Prod.snd h).symm),
    none_at (cell := fun d i => endCell (up d (i + 1))) (fun d i hi h => (sems_ne j).2.1 (congrArg Prod.snd h).symm), Nat.zero_add, Nat.add_zero]
  refine Eq.trans ?_ ((congrArg (NB * ·) (count_dn c j)).trans (Nat.mul_one NB))
  show _ = NB * _
  rw [Finset.mul_sum]
  refine Finset.sum_congr rfl fun d _ => ?_
  rw [Finset.mul_sum]
  refine Finset.sum_congr rfl fun i hi => ?_
  by_cases h : recvCell c (j.val + 1) = recvCell (dn d (i + 1)) (i + 1)
  · have hj := (sems_ne j).2.2.2 ⟨i, (Finset.mem_Ico.mp hi).2⟩ (congrArg Prod.snd h)
    subst hj
    rw [if_pos h, if_pos ⟨cell_eq.mp h, rfl⟩, Nat.mul_one]
  · rw [if_neg h, if_neg (fun h' => h (by obtain ⟨h1, h2⟩ := h'; rw [h1, h2])), Nat.mul_zero]

/-- The launch's credit at a cell is what all devices owe it. -/
theorem credit_at {g : GSem nD τ sig} {n : ℕ} (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The launch's credit holds what device `c` will wait with. -/
theorem creds (c : Dev nD) : (Pipeline.launchCred O₀ c : sProp 𝕄) ⊢ credits c := by
  unfold Pipeline.launchCred
  refine (BI.bigSep_subset (Finset.subset_univ (Finset.univ.map ⟨fun k : Fin 16 => semAt k.val, semAt_inj⟩))).trans ?_
  rw [BI.bigSep_map]
  refine (Entails.of_eq (over_sems fun sm => cred (tallyOn ((c : Thread nD τ), sm) (launchCredit (Pipeline.owing O₀) 0 ((c : Thread nD τ), sm))))).trans ?_
  rw [credit_at (owed_bar c), credit_at (owed_end c)]
  unfold credits
  iintro ⟨Hb, He, -, Hr⟩
  isplitl [Hb]; · iexact Hb
  isplitl [He]; · iexact He
  ihave Hr' := (range_mono (F := F) 7 (Ψ := fun i => cred (tallyAt (recvCell c (i + 1)) () NB)) fun i hi => Entails.of_eq (congrArg cred (credit_at (owed_recv c ⟨i, hi⟩)))) $$ Hr
  iexact Hr'

end Cert.KernelIdeal.Own

end
-- ==== Proof.Launch.lean ====
/- The run: from any memory with its counters at zero to the product on every device, for any float values. -/
module

public import proofs.«01_k».proof.Proof.Deal
public import proofs.«01_k».proof.Proof.Gen.KernelIdeal.Points
public import Idealize.ShloMosaic.Lib.Pipeline.Value
public import Idealize.ShloMosaic.Lib.Pipeline.CollectiveSegs

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Around the body -/

/-- The shard as the body finds it. -/
abbrev shardIn (c : Dev nD) : S4096x512.Idx → Elt F .f32 := m ((c : Thread nD τ).loc main_arg0)

/-- What device `c` holds before its body, but for the staged shard and the scratch buffers. -/
def start (c : Dev nD) : sProp 𝕄 :=
  iprop(levAts L lv ∗ share m c ∗ credits c ∗ wAll m c fullShare ∗ result c (m ((c : Thread nD τ).loc main_v1)))
abbrev scratch (c : Dev nD) : sProp 𝕄 := iprop(any c cc0_scratch0 ∗ any c cc0_scratch1 ∗ any c cc0_scratch2 ∗ any c cc0_scratch3)
def Φ₀ (c : Dev nD) : sProp 𝕄 := iprop(start m c ∗ scratch c)
/-- What is left to read when all is done. -/
def finish (c : Dev nD) : sProp 𝕄 := iprop(unscopedSems0 c ∗ wAll m c fullShare ∗ result c (outAt m c))
def Φ₁ (c : Dev nD) : sProp 𝕄 := iprop(finish m c ∗ ownSems c ∗ scratch c)

def dats (_ : Fin 1) (c : Dev nD) : Dat τ (Elt F) Unit ℕ UU ℕ cfg0 c where
  A w := m ((cfg0.win w).arr.view.loc (c : Thread nD τ))
  after w _ := match w with
    | ⟨0, _⟩ => shardIn m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A buffer owned whole, as the pipeline says it. -/
theorem stage_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staged block is the whole shard. -/
theorem block_all (c : Dev nD) (d) : (dats m 0 c).fetched 0 t0_0 d = shardIn m c := by
  unfold Dat.fetched Dat.blockOf
  funext j
  have hm : (cfg0.win 0).moved (cfg0.grid.coords t0_0) j = true :=
    ((cfg0.win 0).moved_iff _ j).mpr fun a => (j a).isLt
  unfold Window.fill; rw [dif_pos hm]
  refine congrArg (shardIn m c) (funext fun a => Fin.ext ?_)
  exact (cfg0.win 0).rect_emb_val_of_index_zero t0_0 a (by fin_cases a <;> rfl) _
/-- So the body finds the whole shard staged. -/
theorem staged (c : Dev nD) (d) : (dats m 0 c).before 0 t0_0 d = shardIn m c := by
  unfold Dat.before; rw [if_pos (fetch0_0 t0_0)]; exact block_all m c d

/-- The devices' cells under the schedule, written out. -/
theorem known_records : (bigSep Finset.univ fun d : Dev nD => known m d) ⊢ (bigSep Finset.univ fun d : Dev nD => iprop(knows m (barCell d) ∗ knows m (endCell d)
    ∗ bigSep (Finset.range 7) fun i => iprop(knows m (sendCell d (i + 1)) ∗ knows m (recvCell d (i + 1)))) : sProp 𝕄) := by
  unfold known; iintro H; iexact H

/-- The body, as the pipeline runs it. -/
theorem body_obligation (c : Dev nD) : BodyObligation (dats m 0 c) (defs₀ (F := F)) 𝒱₀ () Set.univ := fun t => by
  rw [fin_N0 t, bigSep_W0, bigSep_W0]
  simp only [stage_owns]
  show iprop(Φ₀ m c ∗ (dats m 0 c).owesAt () t0_0.castSucc
      ∗ (∃ d, ∃ f : Buf (Elt F) ((c : Thread nD τ).loc cc0_stg0_0), ⌜f = (dats m 0 c).before 0 t0_0 d⌝ ∗ (((c : Thread nD τ).loc cc0_stg0_0) ↦{fullShare} f)))
    ⊢ WP c (bodyAt0 t0_0) (fun _ => iprop(Φ₁ m c ∗ (dats m 0 c).owesAt () t0_0.succ
      ∗ (∃ f : Buf (Elt F) ((c : Thread nD τ).loc cc0_stg0_0), ⌜f = shardIn m c⌝ ∗ (((c : Thread nD τ).loc cc0_stg0_0) ↦{fullShare} f))))
  rw [show (bodyAt0 t0_0 : Prog (TpuEff nD τ sig (Elt F) Λ₀ .tc) PUnit) = body from body_eq]
  unfold Dat.owesAt Pipeline.owesWithin Φ₀ start share Φ₁ finish
  rw [show (dats m 0 c).owed t0_0.castSucc = owing c 0 0 0 from rfl, show (dats m 0 c).owed t0_0.succ = 0 from rfl]
  iintro ⟨⟨⟨#HL, ⟨#HK, Htok, Hpl, Hid, Hcs⟩, Hcr, Hw, Hr⟩, Hscr⟩, ⟨%W, %hW, HO⟩, %d, %f, %hf, Hx⟩
  rw [staged] at hf
  subst hf
  iapply (last_ (run_body m c (m ((c : Thread nD τ).loc main_v1)))) $$ [HO Htok Hpl Hcs Hcr Hw Hr Hscr Hx]
  · unfold before buffers
    isplitr [Hr]
    · isplitr
      · unfold records
        isplitr; · iexact HL
        ihave HK' := (known_records m) $$ HK
        iexact HK'
      isplitl [HO]; · unfold ow; iexists W; iexact HO
      isplitl [Htok]; · iexact Htok
      isplitl [Hpl]; · iexact Hpl
      isplitl [Hcr]; · iexact Hcr
      isplitl [Hcs]; · iexact Hcs
      isplitl [Hx]; · iexact Hx
      isplitl [Hscr]; · iexact Hscr
      iexact Hw
    · iexact Hr
  iintro %_ H
  unfold after buffers
  icases H with ⟨HO, Hsp, Hcs, ⟨Hx, Hscr, Hw⟩, Hr⟩
  ihave Hs := (sems_join (F := F) c) $$ [Hsp Hid Hcs]
  · isplitl [Hsp]; · iexact Hsp
    isplitl [Hid] <;> iassumption
  icases Hs with ⟨Hus, Hos⟩
  isplitl [Hus Hos Hw Hr Hscr]
  · isplitl [Hus Hw Hr]
    · isplitl [Hus]; · iexact Hus
      isplitl [Hw] <;> iassumption
    isplitl [Hos] <;> iassumption
  isplitl [HO]
  · unfold ow; rw [owing_none]
    icases HO with ⟨%W', HO⟩
    iexists W'
    isplitr; · ipureintro; exact fun _ _ => Or.inl trivial
    iexact HO
  iexists _
  isplitr; · ipureintro; rfl
  iexact Hx

/-! ## The launch's side conditions -/

/-- Every window is held whole. -/
theorem share_full (c : Dev nD) (w : Fin cfg0.W) : (dats m 0 c).share w = fullShare := by unfold Dat.share; split <;> rfl

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m c)
      ⊢ |={Set.univ}=> iprop(start m c ∗ emp) := by
  rw [Pipeline.unscopedRestP_none, unscopedRest0_eq]
  iintro ⟨⟨Hw, Hr⟩, Hlev, Hcr, -, HG⟩
  ihave Hc := (creds (F := F) c) $$ Hcr
  imodintro
  unfold start
  isplitl
  · isplitl [Hlev]; · iexact Hlev
    isplitl [HG]; · iexact HG
    isplitl [Hc]; · iexact Hc
    isplitl [Hw]; · iexact Hw
    iexact Hr
  · iempintro

/-- With the kernel's buffers that is the state before the body. -/
theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- The state after the body gives the kernel's semaphores and buffers back. -/
theorem last_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq]
  unfold Φ₁
  iintro H; iexact H

/-- The staging's own waits are below all that a core owes. -/
theorem waits (c : Dev nD) : (levAts L lv : sProp 𝕄) ⊢ Pipeline.cellsWaits cfgs (dats m) () 0 c :=
  Pipeline.cellsWaits_intro cfgs (dats m) () 0 c fun w s t => by
    have h : rank (use (.dma ((cfg0.win w).sem s))) = 0 := by fin_cases w; fin_cases s; rfl
    rcases t with ⟨_ | _, ht⟩
    · exact mayWait c _ 0 0 0 (by rw [h]; decide)
    · have h' := mayWait (F := F) c (.dma ((cfg0.win w).sem s)) 7 7 7 (by rw [h]; decide)
      rw [owing_none] at h'
      exact h'

/-- What device `c` is found to hold at the end. -/
def read (c : Dev nD) (s : MemSt nD τ sig (Elt F)) : Prop :=
  (s.mem ((c : Thread nD τ).loc main_arg1) = wts m c ∧ s.mem ((c : Thread nD τ).loc main_v1) = outAt m c)
    ∧ ∀ sm : SemLoc sig, sm.isScoped .tc = false → s.sem ((c : Thread nD τ), sm) = 0

/-- What a device holds at the end is read in the machine's memory and counters. -/
theorem finish_read (c : Dev nD) (s' : Phys nD τ sig (Elt F)) :
    iprop(finish m c ∗ emp ∗ SI s') ⊢ |={Set.univ}=> iprop(⌜read m c s'.mem⌝ ∗ SI s') := by
  unfold finish
  iintro ⟨⟨Hu, Hw, Hr⟩, -, HSI⟩
  ihave %hw := (SI_pointsTo_agree (st := s') (ℓ := (c : Thread nD τ).loc main_arg1) (I := Finset.univ) (q := fullShare) (f := wts m c)) $$ [HSI Hw]
  · isplitl [HSI] <;> iassumption
  ihave %hr := (SI_pointsTo_agree (st := s') (ℓ := (c : Thread nD τ).loc main_v1) (I := Finset.univ) (q := fullShare) (f := outAt m c)) $$ [HSI Hr]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => hw i (Finset.mem_univ i), funext fun i => hr i (Finset.mem_univ i)⟩, hs⟩
  iexact HSI

/-! ## The run -/

/-- From any memory with zero counters every execution of the program ends, with the arguments as they were, each device's
    result at its row block of the product as the kernel computes it, and every counter at zero. -/
theorem run_main : θ_run defs (onTc (τ := τ) (main (F := F))) (s₀ m ρ) (fun r =>
    (∀ c : Dev nD, (r.2.mem ((c : Thread nD τ).loc main_arg0) = m ((c : Thread nD τ).loc main_arg0)
      ∧ r.2.mem ((c : Thread nD τ).loc main_arg1) = m ((c : Thread nD τ).loc main_arg1))
      ∧ r.2.mem ((c : Thread nD τ).loc main_v1) = outAt m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt m) (G' := share m) (u₀ := u₀)
    (hu₀ := by
      unfold u₀
      iintro Hu
      ihave H := (ownU_pair _ _) $$ Hu
      icases H with ⟨HP, HX⟩
      ihave HX' := (own_pair_emb embR _ _) $$ HX
      icases HX' with ⟨HX, -⟩
      imod (fund m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := first_intro m) (hout := last_exit m)
    (QY := read m) (hY := finish_read m)
    (hQ := fun s h hs => ⟨fun c => ⟨⟨((h c).1 0).trans ((dats m 0 c).arrAt_in 0 rfl _), (h c).2.2.1.1⟩, (h c).2.2.1.2⟩,
      sem_eq_zero hs fun c => (h c).2.2.2⟩)

end Cert.KernelIdeal.Own

end
-- ==== Proof.Value.lean ====
/- The mathematics: over the reals, where a rounding to bfloat16 changes nothing, the eight block products a device adds up,
   one per shard of the contracted axis, are the whole contraction, so that the device's result is its block of rows of the
   product of the two whole arrays. -/
module

public import proofs.«01_k».proof.Proof.Sched
public import proofs.«01_k».proof.ReferenceIdeal
public import Idealize.ShloMosaic.Lib.MatmulPlain
public import Idealize.ShloMosaic.Lib.StackMember
public import Idealize.ShloMosaic.Lib.Layout
public import Idealize.ShloMosaic.Lib.Pipeline.Value

@[expose] public section

set_option maxRecDepth 16384

noncomputable section

namespace Cert.KernelIdeal.Own

open Idealize.ShloMosaic Idealize.ShloMosaic.TcCoe Idealize.ShloMosaic.ValueIdx
open Cert.KernelIdeal Cert.KernelIdeal.Gen

/-! ## Sums in blocks -/

/-- A sum over 4096 positions, 512 at a time. -/
theorem sum_blocks {M : Type} [AddCommMonoid M] (f : Fin 4096 → M) :
    ∑ e : Fin 8, ∑ k : Fin 512, f ⟨512 * e.val + k.val, by omega⟩ = ∑ k, f k := by
  rw [← Fintype.sum_prod_type', ← Equiv.sum_comp (finProdFinEquiv (m := 8) (n := 512)) f]
  exact Finset.sum_congr rfl fun p _ => congrArg f (Fin.ext (by simp [finProdFinEquiv]; omega))

/-- A sum round the circle, from any device on, is the sum over the devices. -/
theorem sum_circle {M : Type} [AddCommMonoid M] (f : Dev nD → M) (c : Dev nD) :
    ∑ s ∈ Finset.range 8, f (up c s) = ∑ e : Fin 8, f e := by
  rw [Finset.sum_range]
  refine Finset.sum_bijective (fun s : Fin 8 => up c s.val) ?_ (by simp) (fun _ _ => rfl)
  exact (by decide +kernel : ∀ c : Dev nD, Function.Bijective fun s : Fin 8 => up c s.val) c

/-! ## The products at an index -/

/-- A block product at a row and a column. -/
theorem mulT_apply (a : FVec Ideal S512x512 .bf16) (b : FVec Ideal S512x2048 .f32) (r : Fin 512) (q : Fin 2048) :
    mulT a b (ix2 r q) = ∑ k : Fin 512, a (ix2 r k) * b (ix2 k q) := by
  show FloatOps.matmul (DotDims.plain 512 512 2048) none a _ (constant S512x2048 .f32 0x00000000#32) (ix2 r q) = _
  rw [Ideal.matmul_plain_apply]
  show Ideal.ofBits .f32 0x00000000#32 + _ = _
  rw [Ideal.ofBits_zero_f32, zero_add]
  rfl

variable (m : (ℓ : Loc nD τ sig) → Buf (Elt Ideal) ℓ)

/-- What has accumulated is the sum of the block products so far. -/
theorem accAt_sum (c : Dev nD) (h n : ℕ) (i : S512x2048.Idx) :
    accAt m c h (n + 1) i = ∑ s ∈ Finset.range (n + 1), (mulT (lhs m c s) (tile m c (8 * h + s)) i : EReal) := by
  induction n with
  | zero => rw [Finset.sum_range_one]; rfl
  | succ n ih =>
    rw [Finset.sum_range_succ, ← ih]
    rfl

/-- The offsets of a weight tile: its rows are those of the device `s` places on, its columns those of the chunk. -/
theorem offW_eq (c : Dev nD) {h s : ℕ} (hh : h < 4) (hs : s < 8) : offW c (8 * h + s) = ![512 * (up c s).val, 2048 * h] :=
  (by decide +kernel : ∀ (c : Dev nD) (h : Fin 4) (s : Fin 8), offW c (8 * h.val + s.val) = ![512 * (up c s.val).val, 2048 * h.val]) c ⟨h, hh⟩ ⟨s, hs⟩

/-! ## The whole arrays -/

/-- Position `k` of the part of a whole axis of 4096 that belongs to device `c`; -/
def glob8 (c : Dev nD) (k : Fin 512) : Fin 4096 := ⟨512 * c.val + k.val, by have h : c.val < 8 := c.isLt; omega⟩
/-- position `q` of column chunk `h`. -/
def globH (h : Fin 4) (q : Fin 2048) : Fin 8192 := ⟨2048 * h.val + q.val, by omega⟩

/-- The product of the whole arrays. -/
def prod (X : (⟨2, ![4096, 4096]⟩ : Shape).Idx → EReal) (W : S4096x8192.Idx → EReal) : S4096x8192.Idx → EReal :=
  fun j => ∑ k : Fin 4096, X (ix2 (j 0 : Fin 4096) k) * W (ix2 k (j 1 : Fin 8192))

variable (X : (⟨2, ![4096, 4096]⟩ : Shape).Idx → EReal) (W : S4096x8192.Idx → EReal)

/-- A rounded shard is the shard. -/
theorem shard_eq (c : Dev nD) : shard m c = m ((c : Thread nD τ).loc main_arg0) := by
  unfold shard k0_pay1
  simp only [shapeCast_self]
  rfl

/-- A left factor's element is one of the whole array: in the rows of device `c`, in the columns of the device `s` places on. -/
theorem lhs_apply (hX : ∀ c : Dev nD, m ((c : Thread nD τ).loc main_arg0) = Layout.block ⟨2, ![4096, 512]⟩ ⟨2, ![4096, 4096]⟩ 1 8 c X)
    (c : Dev nD) (s : ℕ) (r k : Fin 512) : lhs m c s (ix2 r k) = X (ix2 (glob8 c r) (glob8 (up c s) k)) := by
  have hc : c.val < 8 := c.isLt
  unfold lhs rows
  rw [shard_eq, hX, Layout.block_apply]
  refine congrArg X (funext fun a => Fin.ext ?_)
  match a with
  | ⟨0, _⟩ =>
    show 512 * min c.val 7 + 1 * r.val = 512 * c.val + r.val
    omega
  | ⟨1, _⟩ =>
    show (up c s).val * 512 + (0 + 1 * k.val) = 512 * (up c s).val + k.val
    omega

/-- A weight tile's element is one of the whole array: in the rows that match, in the columns of the chunk. -/
theorem tile_apply (hW : ∀ c : Dev nD, m ((c : Thread nD τ).loc main_arg1) = W) (c : Dev nD) (h : Fin 4) {s : ℕ} (hs : s < 8) (k : Fin 512) (q : Fin 2048) :
    tile m c (8 * h.val + s) (ix2 k q) = W (ix2 (glob8 (up c s) k) (globH h q)) := by
  unfold tile wts
  rw [hW c]
  have e := offW_eq c h.isLt hs
  refine congrArg W (funext fun a => Fin.ext ?_)
  rw [Rect.emb_apply]
  match a with
  | ⟨0, _⟩ =>
    show offW c (8 * h.val + s) 0 + 1 * k.val = 512 * (up c s).val + k.val
    rw [e, Nat.one_mul]; rfl
  | ⟨1, _⟩ =>
    show offW c (8 * h.val + s) 1 + 1 * q.val = 2048 * h.val + q.val
    rw [e, Nat.one_mul]; rfl

/-- The whole contraction at a row of device `c` and a column, a device at a time from `c` on. -/
theorem prod_apply (c : Dev nD) (r : Fin 512) (j : Fin 8192) :
    prod X W (ix2 (glob8 c r) j) = ∑ s ∈ Finset.range 8, ∑ k : Fin 512, X (ix2 (glob8 c r) (glob8 (up c s) k)) * W (ix2 (glob8 (up c s) k) j) := by
  rw [sum_circle fun e => ∑ k : Fin 512, X (ix2 (glob8 c r) (glob8 e k)) * W (ix2 (glob8 e k) j)]
  exact (sum_blocks fun k => X (ix2 (glob8 c r) k) * W (ix2 k j)).symm

/-- What a device has accumulated at the end of a column chunk. -/
theorem accAt_apply (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = W) (c : Dev nD) (h : Fin 4) (r : Fin 512) (q : Fin 2048) :
    accAt m c h.val 8 (ix2 r q) = prod X W (ix2 (glob8 c r) (globH h q)) := by
  rw [accAt_sum m c h.val 7, prod_apply]
  refine Finset.sum_congr rfl fun s hs => ?_
  rw [mulT_apply]
  refine Finset.sum_congr rfl fun k _ => ?_
  rw [lhs_apply m X hX, tile_apply m W hW c h (Finset.mem_range.mp hs)]

/-- Where row `r`, column `q` of chunk `h` of device `c`'s block lies in the whole result. -/
theorem block_result (Z : S4096x8192.Idx → EReal) (c : Dev nD) (i : S512x8192.Idx) (r : Fin 512) (h : Fin 4) (q : Fin 2048)
    (h0 : (i 0).val = r.val) (h1 : (i 1).val = 2048 * h.val + q.val) :
    (Layout.block ⟨2, ![512, 8192]⟩ ⟨2, ![4096, 8192]⟩ 0 8 c Z) i = Z (ix2 (glob8 c r) (globH h q)) := by
  rw [Layout.block_apply]
  refine congrArg Z (funext fun a => Fin.ext ?_)
  match a with
  | ⟨0, _⟩ =>
    show c.val * 512 + (i 0).val = 512 * c.val + r.val
    omega
  | ⟨1, _⟩ => exact h1

/-- A column chunk of a device's result is what has accumulated at the chunk's end. -/
theorem outAt_apply (c : Dev nD) (i : S512x8192.Idx) (h : Fin 4) (q : Fin 2048) (hh : (i 1).val / 2048 = h.val) (hq : (i 1).val % 2048 = q.val) :
    outAt m c i = accAt m c h.val 8 (ix2 (i 0 : Fin 512) q) := by
  unfold outAt
  rw [hh]
  refine congrArg (accAt m c h.val 8) (funext fun a => ?_)
  match a with
  | ⟨0, _⟩ => rfl
  | ⟨1, _⟩ => exact Fin.ext hq

/-- The result of device `c` is its block of rows of the product of the whole arrays. -/
theorem outAt_eq (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = W) (c : Dev nD) :
    outAt m c = Layout.block ⟨2, ![512, 8192]⟩ ⟨2, ![4096, 8192]⟩ 0 8 c (prod X W) := by
  funext i
  have h1 : (i 1).val < 8192 := (i 1).isLt
  obtain ⟨h, hh⟩ : ∃ h : Fin 4, (i 1).val / 2048 = h.val := ⟨⟨(i 1).val / 2048, by omega⟩, rfl⟩
  obtain ⟨q, hq⟩ : ∃ q : Fin 2048, (i 1).val % 2048 = q.val := ⟨⟨(i 1).val % 2048, by omega⟩, rfl⟩
  have h2 : (i 1).val = 2048 * h.val + q.val := by omega
  exact (outAt_apply m c i h q hh hq).trans ((accAt_apply m X W hX hW c h (i 0) q).trans (block_result (prod X W) c i (i 0) h q rfl h2).symm)

/-- The reference's result is that product. -/
theorem reference_eq [Cert.ReferenceIdeal.Facts] (A : FVec Ideal Cert.ReferenceIdeal.S4096x4096 .f32) (B : FVec Ideal Cert.ReferenceIdeal.S4096x8192 .f32)
    (hb : FTy.bits .bf16 < FTy.bits .f32) :
    (extf .f32 (truncf .bf16 (Host.dotGeneral Cert.ReferenceIdeal.dot_S4096x4096_S4096x8192_S4096x8192_1_0_0_1_n_n none
      (truncf .bf16 A hb) (truncf .bf16 B hb)) hb) hb : FVec Ideal Cert.ReferenceIdeal.S4096x8192 .f32) = prod A B := by
  funext j
  obtain ⟨r, q, rfl⟩ : ∃ (r : Fin 4096) (q : Fin 8192), j = ix2 r q := ⟨j 0, j 1, eq_ix2 j⟩
  exact StackMember.dotGeneral_plain_apply none A B r q

end Cert.KernelIdeal.Own

end
-- ==== Proof.lean ====
/- The claims about the kernel: it runs, and over the reals its result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem
open Cert.KernelIdeal.Own

/-! ## The kernel as compiled and the kernel to be read over the reals are one program -/

/-- One body, -/
theorem body_same : Cert.Kernel.cc0_body (F := Bits) = Cert.KernelIdeal.cc0_body (F := Bits) := rfl
/-- one table of bodies, -/
theorem defs₀_same : Cert.Kernel.defs₀ (F := Bits) = Cert.KernelIdeal.defs₀ (F := Bits) := by
  unfold Cert.Kernel.defs₀ Cert.KernelIdeal.defs₀
  refine congrArg Defs.onTc (funext fun l => funext fun x => ?_)
  obtain rfl : l = 0 := Subsingleton.elim _ _
  obtain ⟨t, s⟩ := x
  rfl
/-- one table of functions. -/
theorem defs_same : Cert.Kernel.defs (F := Bits) = Cert.KernelIdeal.defs (F := Bits) :=
  congrArg (Pipeline.defs Cert.KernelIdeal.pcfgs) defs₀_same

/-! ## The programs run -/

/-- The kernel runs at the machine's float values, its arguments unchanged, every counter at zero: the run that Proof/Launch.lean
    proves at any float values, at these. -/
theorem frame_kernel : Cert.quiescent_Kernel := by
  intro m ρ _
  rw [defs_same]
  exact (θ_run Cert.KernelIdeal.defs _ _).mono (fun _ h => ⟨fun c => (h.1 c).1, h.2⟩) (run_main (F := Bits) m ρ)

/-- So it does over the reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference runs over the reals, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The results agree -/

/-- Over the reals every device's result is its block of rows of the reference's result. -/
theorem algebraic : Cert.algebraic_KernelIdeal_ReferenceIdeal := by
  intro m ρ m' ρ' _ hm
  refine ⟨prod (m' ((0 : Dev Cert.ReferenceIdeal.nD).tc.loc Cert.ReferenceIdeal.main_arg0)) (m' ((0 : Dev Cert.ReferenceIdeal.nD).tc.loc Cert.ReferenceIdeal.main_arg1)), ?_, ?_⟩
  · refine (θ_run Cert.KernelIdeal.defs _ _).mono (fun r h c => ⟨?_, (h.1 c).1⟩) (run_main (F := Ideal) m ρ)
    exact (h.1 c).2.trans (outAt_eq m _ _ (fun c => (hm c).1) (fun c => (hm c).2) c)
  · refine (θ_run Cert.ReferenceIdeal.defs _ _).mono (fun r h => ⟨?_, (h 0).2⟩) (Cert.ReferenceIdeal.Value.run (F := Ideal) m' ρ')
    exact (h 0).1.trans (reference_eq _ _ _)

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
